-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S512x512 : Shape := ⟨2, ![512, 512]⟩
abbrev S5 : Shape := ⟨1, ![5]⟩
abbrev S_ : Shape := ⟨0, ![]⟩
abbrev S4 : Shape := ⟨1, ![4]⟩
abbrev S1 : Shape := ⟨1, ![1]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let c0_i32_11 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v17 : BitVec 32 := Scalar.muli v9 c512_i32
  ![0, v17.toNat]
def k0_off2 (d0 : Dev nD) : Fin 2 → Nat :=
  let c128_i32_15 : BitVec 32 := 128#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_12 : BitVec 32 := 512#32
  let v22 : BitVec 32 := Scalar.muli v9 c512_i32_12
  ![128, v22.toNat]
def k0_off3 (d0 : Dev nD) : Fin 2 → Nat :=
  let c256_i32_19 : BitVec 32 := 256#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_16 : BitVec 32 := 512#32
  let v27 : BitVec 32 := Scalar.muli v9 c512_i32_16
  ![256, v27.toNat]
def k0_off4 (d0 : Dev nD) : Fin 2 → Nat :=
  let c384_i32_22 : BitVec 32 := 384#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_20 : BitVec 32 := 512#32
  let v32 : BitVec 32 := Scalar.muli v9 c512_i32_20
  ![384, v32.toNat]
def k0_off5 (d0 : Dev nD) (c0_i32_32 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_31 : BitVec 32 := 512#32
  let v45 : BitVec 32 := Scalar.muli v8 c512_i32_31
  let v46 : BitVec 32 := Scalar.addi v45 c0_i32_32
  let c0_i32_39 : BitVec 32 := 0#32
  ![v46.toNat, 0]
def k0_dev2 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v47 : BitVec 32 := Scalar.muli v2 c4_i32_35
  let v48 : BitVec 32 := Scalar.addi c0_i32_36 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v49 : BitVec 32 := Scalar.muli v5 c2_i32_37
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v51 : BitVec 32 := Scalar.muli v9 c1_i32_38
  let v52 : BitVec 32 := Scalar.addi v50 v51
  v52.toNat
def k0_dev3 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v69 : BitVec 32 := Scalar.muli v2 c4_i32_53
  let v70 : BitVec 32 := Scalar.addi c0_i32_54 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v71 : BitVec 32 := Scalar.muli v5 c2_i32_55
  let v72 : BitVec 32 := Scalar.addi v70 v71
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_56 : BitVec 32 := 1#32
  let v73 : BitVec 32 := Scalar.muli v9 c1_i32_56
  let v74 : BitVec 32 := Scalar.addi v72 v73
  v74.toNat
def k0_dev4 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v91 : BitVec 32 := Scalar.muli v2 c4_i32_71
  let v92 : BitVec 32 := Scalar.addi c0_i32_72 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v93 : BitVec 32 := Scalar.muli v5 c2_i32_73
  let v94 : BitVec 32 := Scalar.addi v92 v93
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_74 : BitVec 32 := 1#32
  let v95 : BitVec 32 := Scalar.muli v9 c1_i32_74
  let v96 : BitVec 32 := Scalar.addi v94 v95
  v96.toNat
def k0_dev5 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v113 : BitVec 32 := Scalar.muli v2 c4_i32_89
  let v114 : BitVec 32 := Scalar.addi c0_i32_90 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v115 : BitVec 32 := Scalar.muli v5 c2_i32_91
  let v116 : BitVec 32 := Scalar.addi v114 v115
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v117 : BitVec 32 := Scalar.muli v9 c1_i32_92
  let v118 : BitVec 32 := Scalar.addi v116 v117
  v118.toNat
def k0_off6 (d0 : Dev nD) : Fin 2 → Nat :=
  let c0_i32_98 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_96 : BitVec 32 := 512#32
  let v125 : BitVec 32 := Scalar.muli v8 c512_i32_96
  ![0, v125.toNat]
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_105 : BitVec 32 := 512#32
  let v136 : BitVec 32 := Scalar.muli v8 c512_i32_105
  let c0_i32_106 : BitVec 32 := 0#32
  ![v136.toNat, 0]
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Pieces.lean ====
/-
# The pieces of the exchange

The mesh has eight devices; device `c` sits at coordinate `c % 2` of the exchange axis and its peer is the device
that differs from it in that coordinate alone. Device `c` holds 512 rows of the matrix. It keeps the 512 columns of
its own coordinate and sends the other 512 columns to its peer, in four chunks of 128 rows.

This module names the memory each step touches — the chunks of the input, of the two staging buffers and of the
result — once for every chunk `k`, shows that the pieces of each buffer are disjoint and fill it, and says what the
result must hold.
-/
module

public import proofs.«01_k».proof.Proof.Gen.KernelIdeal
public import proofs.«01_k».proof.Proof.Gen.KernelIdeal.Skeleton
public import Idealize.ShloMosaic.Lib.Ring
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.BI
open scoped Idealize.SL.BI

variable {F : FTy → Type} [FloatOps F]

/-! ## The peer -/

set_option backward.proofsInPublic true in
/-- The device at the other coordinate of the exchange axis, the other two coordinates kept. -/
def peer (c : Dev nD) : Dev nD := ⟨(c.val + 1) - 2 * (c.val % 2), by have := c.isLt; simp only [nD] at *; omega⟩

theorem peer_val (c : Dev nD) : (peer c).val = (c.val + 1) - 2 * (c.val % 2) := rfl
/-- The peer of the peer is the device itself. -/
theorem peer_peer (c : Dev nD) : peer (peer c) = c := by revert c; decide
/-- The peer's coordinate is the other one. -/
theorem peer_mod (c : Dev nD) : (peer c).val % 2 = 1 - c.val % 2 := by rw [peer_val]; omega

/-- Exchanging every device with its peer. -/
def swap : Dev nD ≃ Dev nD := ⟨peer, peer, peer_peer, peer_peer⟩

/-- The device number the kernel computes for its signal and for each of its four remote copies is the peer's. -/
theorem dev_of_closed (c : Dev nD) (n : Dev nD) (h : n.val = (4 * (c.val / 4) + 2 * ((c.val / 2) % 2) + 1) - c.val % 2) : n = peer c := by
  apply Fin.ext; rw [h, peer_val]; omega
theorem dev1_eq (c : Dev nD) : (⟨k0_dev1 c, k0_dev1_lt c⟩ : Dev nD) = peer c := dev_of_closed c _ (k0_dev1_eq c)
theorem dev2_eq (c : Dev nD) : (⟨k0_dev2 c, k0_dev2_lt c⟩ : Dev nD) = peer c := dev_of_closed c _ (k0_dev2_eq c)
theorem dev3_eq (c : Dev nD) : (⟨k0_dev3 c, k0_dev3_lt c⟩ : Dev nD) = peer c := dev_of_closed c _ (k0_dev3_eq c)
theorem dev4_eq (c : Dev nD) : (⟨k0_dev4 c, k0_dev4_lt c⟩ : Dev nD) = peer c := dev_of_closed c _ (k0_dev4_eq c)
theorem dev5_eq (c : Dev nD) : (⟨k0_dev5 c, k0_dev5_lt c⟩ : Dev nD) = peer c := dev_of_closed c _ (k0_dev5_eq c)

/-! ## The buffers -/

abbrev xM : Memref sig .tc .hbm S512x1024 .bf16 := Memref.whole main_arg0
abbrev outM : Memref sig .tc .hbm S1024x512 .bf16 := Memref.whole main_v1
abbrev stageM : Memref sig .tc .vmem S512x512 .bf16 := Memref.whole cc0_scratch0
abbrev ownM : Memref sig .tc .vmem S512x512 .bf16 := Memref.whole cc0_scratch1
abbrev sendM : Memref sig .tc .vmem S512x512 .bf16 := Memref.whole cc0_scratch2
abbrev keepM : Memref sig .tc .vmem S512x512 .bf16 := Memref.whole cc0_scratch3

/-! ## The rectangles -/

/-- Chunk `k` of a 512 × 512 buffer: rows `128 k` to `128 k + 127`. -/
def rowOff : Fin 4 → Fin 2 → ℕ := fun | 0 => ![0, 0] | 1 => ![128, 0] | 2 => ![256, 0] | 3 => ![384, 0]
theorem rowOff_eq (k : Fin 4) : rowOff k = ![128 * k.val, 0] := by fin_cases k <;> rfl
theorem rowOff_inb (k : Fin 4) : ∀ a, rowOff k a + S128x512.size a ≤ S512x512.size a := by
  fin_cases k
  · exact inb_S512x512_S128x512_0_0
  · exact inb_S512x512_S128x512_128_0
  · exact inb_S512x512_S128x512_256_0
  · exact inb_S512x512_S128x512_384_0
abbrev rowRect (k : Fin 4) : Rect S512x512 := Rect.unit (rowOff k) S128x512.size (rowOff_inb k)

/-- Chunk `k` of what device `c` sends: 128 rows of the 512 columns of its peer's coordinate. -/
def xOff (c : Dev nD) : Fin 4 → Fin 2 → ℕ := fun | 0 => k0_off1 c | 1 => k0_off2 c | 2 => k0_off3 c | 3 => k0_off4 c
theorem xOff_eq (c : Dev nD) (k : Fin 4) : xOff c k = ![128 * k.val, 512 - 512 * (c.val % 2)] := by
  fin_cases k
  · exact k0_off1_eq c
  · exact k0_off2_eq c
  · exact k0_off3_eq c
  · exact k0_off4_eq c
theorem xOff_inb (c : Dev nD) (k : Fin 4) : ∀ a, xOff c k a + S128x512.size a ≤ S512x1024.size a := by
  fin_cases k
  · exact k0_off1_inb c
  · exact k0_off2_inb c
  · exact k0_off3_inb c
  · exact k0_off4_inb c
abbrev xRect (c : Dev nD) (k : Fin 4) : Rect S512x1024 := Rect.unit (xOff c k) S128x512.size (xOff_inb c k)
/-- The half device `c` keeps: its rows of the 512 columns of its own coordinate. -/
abbrev xKeepRect (c : Dev nD) : Rect S512x1024 := Rect.unit (k0_off6 c) S512x512.size (k0_off6_inb c)

/-- The rows of the peer's result that chunk `k` of device `c` fills. -/
def outOff (c : Dev nD) : Fin 4 → Fin 2 → ℕ :=
  fun | 0 => k0_off5 c 0#32 | 1 => k0_off5 c 128#32 | 2 => k0_off5 c 256#32 | 3 => k0_off5 c 384#32
theorem outOff_eq (c : Dev nD) (k : Fin 4) : outOff c k = ![512 * (c.val % 2) + 128 * k.val, 0] := by
  fin_cases k
  · exact k0_off5_eq c 0
  · exact k0_off5_eq c 1
  · exact k0_off5_eq c 2
  · exact k0_off5_eq c 3
theorem outOff_inb (c : Dev nD) (k : Fin 4) : ∀ a, outOff c k a + S128x512.size a ≤ S1024x512.size a := by
  fin_cases k
  · exact k0_off5_inb c 0
  · exact k0_off5_inb c 1
  · exact k0_off5_inb c 2
  · exact k0_off5_inb c 3
abbrev outRect (c : Dev nD) (k : Fin 4) : Rect S1024x512 := Rect.unit (outOff c k) S128x512.size (outOff_inb c k)
/-- The rows of device `c`'s result that its own half fills. -/
abbrev outKeepRect (c : Dev nD) : Rect S1024x512 := Rect.unit (k0_off7 c) S512x512.size (k0_off7_inb c)

/-! ## The chunks -/

abbrev xChunk (c : Dev nD) (k : Fin 4) : Memref sig .tc .hbm S128x512 .bf16 := xM.slice (xRect c k) (fun _ => rfl)
abbrev xKeep (c : Dev nD) : Memref sig .tc .hbm S512x512 .bf16 := xM.slice (xKeepRect c) (fun _ => rfl)
abbrev stageChunk (k : Fin 4) : Memref sig .tc .vmem S128x512 .bf16 := stageM.slice (rowRect k) (fun _ => rfl)
abbrev sendChunk (k : Fin 4) : Memref sig .tc .vmem S128x512 .bf16 := sendM.slice (rowRect k) (fun _ => rfl)
abbrev outChunk (c : Dev nD) (k : Fin 4) : Memref sig .tc .hbm S128x512 .bf16 := outM.slice (outRect c k) (fun _ => rfl)
abbrev outKeep (c : Dev nD) : Memref sig .tc .hbm S512x512 .bf16 := outM.slice (outKeepRect c) (fun _ => rfl)

/-- The part of the buffer a chunk covers is its rectangle's. -/
theorem xChunk_set (c : Dev nD) (k : Fin 4) : (xChunk c k).view.set = (xRect c k).set := View.set_slice_whole _ _
theorem xKeep_set (c : Dev nD) : (xKeep c).view.set = (xKeepRect c).set := View.set_slice_whole _ _
theorem stageChunk_set (k : Fin 4) : (stageChunk k).view.set = (rowRect k).set := View.set_slice_whole _ _
theorem sendChunk_set (k : Fin 4) : (sendChunk k).view.set = (rowRect k).set := View.set_slice_whole _ _
theorem outChunk_set (c : Dev nD) (k : Fin 4) : (outChunk c k).view.set = (outRect c k).set := View.set_slice_whole _ _
theorem outKeep_set (c : Dev nD) : (outKeep c).view.set = (outKeepRect c).set := View.set_slice_whole _ _

/-! ## The pieces of each buffer are disjoint and fill it -/

theorem mem_rowRect (k : Fin 4) (i : S512x512.Idx) : i ∈ (rowRect k).set ↔ 128 * k.val ≤ (i 0).val ∧ (i 0).val < 128 * k.val + 128 := by
  rw [Rect.mem_set_unit, rowOff_eq]
  constructor
  · intro h; exact h 0
  · intro h a
    fin_cases a
    · exact h
    · exact ⟨Nat.zero_le _, (Nat.zero_add _).symm ▸ (i 1).isLt⟩

theorem rows_disjoint (k l : Fin 4) (h : k ≠ l) : Disjoint (rowRect k).set (rowRect l).set := by
  rw [Finset.disjoint_left]
  intro i hk hl
  rw [mem_rowRect] at hk hl
  exact h (Fin.ext (by omega))

theorem rows_cover (i : S512x512.Idx) : ∃ k : Fin 4, i ∈ (rowRect k).set := by
  have hi : (i 0).val < 512 := (i 0).isLt
  refine ⟨⟨(i 0).val / 128, by omega⟩, ?_⟩
  rw [mem_rowRect]
  simp only
  omega

/-- The pieces of device `c`'s input: the half it keeps and the four chunks it sends. -/
def xPart (c : Dev nD) : Option (Fin 4) → Finset S512x1024.Idx
  | none => (xKeepRect c).set
  | some k => (xRect c k).set
/-- The pieces of device `c`'s result: the half it fills itself and the four chunks its peer fills. -/
def outPart (c : Dev nD) : Option (Fin 4) → Finset S1024x512.Idx
  | none => (outKeepRect c).set
  | some k => (outRect (peer c) k).set

theorem mem_xRect (c : Dev nD) (k : Fin 4) (i : S512x1024.Idx) : i ∈ (xRect c k).set ↔
    (128 * k.val ≤ (i 0).val ∧ (i 0).val < 128 * k.val + 128) ∧ (512 - 512 * (c.val % 2) ≤ (i 1).val ∧ (i 1).val < 512 - 512 * (c.val % 2) + 512) := by
  rw [Rect.mem_set_unit, xOff_eq, Fin.forall_fin_two]; rfl
theorem mem_xKeepRect (c : Dev nD) (i : S512x1024.Idx) : i ∈ (xKeepRect c).set ↔
    (0 ≤ (i 0).val ∧ (i 0).val < 0 + 512) ∧ (512 * (c.val % 2) ≤ (i 1).val ∧ (i 1).val < 512 * (c.val % 2) + 512) := by
  rw [Rect.mem_set_unit, k0_off6_eq, Fin.forall_fin_two]; rfl
theorem mem_outRect (c : Dev nD) (k : Fin 4) (i : S1024x512.Idx) : i ∈ (outRect c k).set ↔
    (512 * (c.val % 2) + 128 * k.val ≤ (i 0).val ∧ (i 0).val < 512 * (c.val % 2) + 128 * k.val + 128) ∧ (0 ≤ (i 1).val ∧ (i 1).val < 0 + 512) := by
  rw [Rect.mem_set_unit, outOff_eq, Fin.forall_fin_two]; rfl
theorem mem_outKeepRect (c : Dev nD) (i : S1024x512.Idx) : i ∈ (outKeepRect c).set ↔
    (512 * (c.val % 2) ≤ (i 0).val ∧ (i 0).val < 512 * (c.val % 2) + 512) ∧ (0 ≤ (i 1).val ∧ (i 1).val < 0 + 512) := by
  rw [Rect.mem_set_unit, k0_off7_eq, Fin.forall_fin_two]; rfl

theorem xParts_disjoint (c : Dev nD) (p q : Option (Fin 4)) (h : p ≠ q) : Disjoint (xPart c p) (xPart c q) := by
  rw [Finset.disjoint_left]
  intro i hp hq
  have hc : c.val % 2 < 2 := Nat.mod_lt _ (by decide)
  rcases p with _ | k <;> rcases q with _ | l <;> simp only [xPart, mem_xRect, mem_xKeepRect] at hp hq
  · exact h rfl
  · omega
  · omega
  · exact h (congrArg some (Fin.ext (by omega)))

theorem xParts_cover (c : Dev nD) (i : S512x1024.Idx) : ∃ p, i ∈ xPart c p := by
  have hc : c.val % 2 < 2 := Nat.mod_lt _ (by decide)
  have h0 : (i 0).val < 512 := (i 0).isLt
  have h1 : (i 1).val < 1024 := (i 1).isLt
  by_cases h : (i 1).val / 512 = c.val % 2
  · refine ⟨none, ?_⟩
    simp only [xPart, mem_xKeepRect]; omega
  · refine ⟨some ⟨(i 0).val / 128, by omega⟩, ?_⟩
    simp only [xPart, mem_xRect]; omega

theorem outParts_disjoint (c : Dev nD) (p q : Option (Fin 4)) (h : p ≠ q) : Disjoint (outPart c p) (outPart c q) := by
  rw [Finset.disjoint_left]
  intro i hp hq
  have hc : c.val % 2 < 2 := Nat.mod_lt _ (by decide)
  rcases p with _ | k <;> rcases q with _ | l <;> simp only [outPart, mem_outRect, mem_outKeepRect, peer_mod] at hp hq
  · exact h rfl
  · omega
  · omega
  · exact h (congrArg some (Fin.ext (by omega)))

theorem outParts_cover (c : Dev nD) (i : S1024x512.Idx) : ∃ p, i ∈ outPart c p := by
  have hc : c.val % 2 < 2 := Nat.mod_lt _ (by decide)
  have h0 : (i 0).val < 1024 := (i 0).isLt
  have h1 : (i 1).val < 512 := (i 1).isLt
  by_cases h : (i 0).val / 512 = c.val % 2
  · refine ⟨none, ?_⟩
    simp only [outPart, mem_outKeepRect]; omega
  · refine ⟨some ⟨(i 0).val % 512 / 128, by omega⟩, ?_⟩
    simp only [outPart, mem_outRect, peer_mod]; omega

/-! ## What the result holds -/

variable (m : (ℓ : Loc nD τ sig) → Buf (Elt F) ℓ)

/-- Device `c`'s input at launch. -/
abbrev xBuf (c : Dev nD) : S512x1024.Idx → Elt F .bf16 := m ((c : Thread nD τ).loc main_arg0)

set_option backward.proofsInPublic true in
/-- The place in the input that entry `i` of device `c`'s result comes from: the row within its half, and the column
    counted from the first column of device `c`'s coordinate. -/
def srcIdx (c : Dev nD) (i : S1024x512.Idx) : S512x1024.Idx :=
  Fin.cons (⟨(i 0).val % 512, Nat.mod_lt _ (by decide)⟩ : Fin 512)
    (Fin.cons (⟨512 * (c.val % 2) + (i 1).val, by have h : (i 1).val < 512 := (i 1).isLt; omega⟩ : Fin 1024) (fun a => a.elim0))

theorem srcIdx_0 (c : Dev nD) (i : S1024x512.Idx) : (srcIdx c i 0).val = (i 0).val % 512 := rfl
theorem srcIdx_1 (c : Dev nD) (i : S1024x512.Idx) : (srcIdx c i 1).val = 512 * (c.val % 2) + (i 1).val := rfl

/-- Device `c`'s result: the 512 rows of its own coordinate from its own input, the other 512 from its peer's. -/
def outF (c : Dev nD) (i : S1024x512.Idx) : Elt F .bf16 :=
  xBuf m (if (i 0).val / 512 = c.val % 2 then c else peer c) (srcIdx c i)

/-- Two indices of the input are equal when their coordinates are. -/
theorem xIdx_ext (i j : S512x1024.Idx) (h0 : (i 0).val = (j 0).val) (h1 : (i 1).val = (j 1).val) : i = j := by
  funext a
  fin_cases a
  · exact Fin.ext h0
  · exact Fin.ext h1

/-- What device `c` sends in chunk `k`. -/
def sent (c : Dev nD) (k : Fin 4) : S128x512.Idx → Elt F .bf16 := (xChunk c k).view.read (Elt F) (xBuf m c)
/-- What device `c` keeps. -/
def kept (c : Dev nD) : S512x512.Idx → Elt F .bf16 := (xKeep c).view.read (Elt F) (xBuf m c)

omit [FloatOps F] in
/-- The rows of the peer's result that chunk `k` fills hold what device `c` sends in it. -/
theorem outF_chunk (c : Dev nD) (k : Fin 4) (x : S128x512.Idx) : outF m (peer c) ((outChunk c k).view.emb x) = sent m c k x := by
  have hc : c.val % 2 < 2 := Nat.mod_lt _ (by decide)
  have x0 : (x 0).val < 128 := (x 0).isLt
  have x1 : (x 1).val < 512 := (x 1).isLt
  have e0 : (((outChunk c k).view.emb x) 0).val = 512 * (c.val % 2) + 128 * k.val + (x 0).val := by
    show outOff c k 0 + 1 * (x 0).val = _
    rw [outOff_eq, Nat.one_mul]; rfl
  have e1 : (((outChunk c k).view.emb x) 1).val = (x 1).val := by
    show outOff c k 1 + 1 * (x 1).val = _
    rw [outOff_eq, Nat.one_mul]; exact Nat.zero_add _
  have f0 : (((xChunk c k).view.emb x) 0).val = 128 * k.val + (x 0).val := by
    show xOff c k 0 + 1 * (x 0).val = _
    rw [xOff_eq, Nat.one_mul]; rfl
  have f1 : (((xChunk c k).view.emb x) 1).val = 512 - 512 * (c.val % 2) + (x 1).val := by
    show xOff c k 1 + 1 * (x 1).val = _
    rw [xOff_eq, Nat.one_mul]; rfl
  unfold outF
  rw [if_neg (by rw [e0, peer_mod]; omega), peer_peer]
  show xBuf m c _ = xBuf m c ((xChunk c k).view.emb x)
  congr 1
  apply xIdx_ext
  · rw [srcIdx_0, e0, f0]; omega
  · rw [srcIdx_1, e1, f1, peer_mod]; omega

omit [FloatOps F] in
/-- The rows of device `c`'s result that it fills itself hold what it keeps. -/
theorem outF_keep (c : Dev nD) (x : S512x512.Idx) : outF m c ((outKeep c).view.emb x) = kept m c x := by
  have hc : c.val % 2 < 2 := Nat.mod_lt _ (by decide)
  have x0 : (x 0).val < 512 := (x 0).isLt
  have x1 : (x 1).val < 512 := (x 1).isLt
  have e0 : (((outKeep c).view.emb x) 0).val = 512 * (c.val % 2) + (x 0).val := by
    show k0_off7 c 0 + 1 * (x 0).val = _
    rw [k0_off7_eq, Nat.one_mul]; rfl
  have e1 : (((outKeep c).view.emb x) 1).val = (x 1).val := by
    show k0_off7 c 1 + 1 * (x 1).val = _
    rw [k0_off7_eq, Nat.one_mul]; exact Nat.zero_add _
  have f0 : (((xKeep c).view.emb x) 0).val = (x 0).val := by
    show k0_off6 c 0 + 1 * (x 0).val = _
    rw [k0_off6_eq, Nat.one_mul]; exact Nat.zero_add _
  have f1 : (((xKeep c).view.emb x) 1).val = 512 * (c.val % 2) + (x 1).val := by
    show k0_off6 c 1 + 1 * (x 1).val = _
    rw [k0_off6_eq, Nat.one_mul]; rfl
  unfold outF
  rw [if_pos (by rw [e0]; omega)]
  show xBuf m c _ = xBuf m c ((xKeep c).view.emb x)
  congr 1
  apply xIdx_ext
  · rw [srcIdx_0, e0, f0]; omega
  · rw [srcIdx_1, e1, f1]

end Cert.Exchange

end
-- ==== Proof.Protocol.lean ====
/-
# The protocol between a device and its peer

Nine semaphores of each device are shared with its peer: the barrier, which the peer raises to say that its result
may be written into, and for each chunk `k` a send and a receive semaphore, raised by the remote copy of the chunk.
Each of them is used for one round. This module states what each raise hands over:

* the barrier of `c`: the four chunks of the peer's result that `c` will fill, at any contents;
* the send semaphore `k` of `c`: chunk `k` of the send buffer back;
* the receive semaphore `k` of `c`: the rows of `c`'s result that the peer fills with its chunk `k`, holding what the
  result must hold there.

It also states what a device owes while it runs, and that each of its waits is allowed while it owes that.
-/
module

public import proofs.«01_k».proof.Proof.Pieces
public import Idealize.ShloMosaic.Lib.Pipeline.Launch
public import Idealize.ShloMosaic.Lib.Pipeline.Kit
public import Idealize.ShloMosaic.Lib.Transfers

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UX : Type := URounds (GSem nD τ sig) Unit
abbrev UU : Type := UR sig nD τ × (UX × Counters)

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) :=
  ((Emb.inl : Emb UX (UX × Counters)).trans (Emb.inr : Emb (UX × Counters) UU)).trans
    (uEmb : UEmb UU (MT nD τ sig Unit (Elt F) ℕ UU ℕ)).toEmb

variable (m : (ℓ : Loc nD τ sig) → Buf (Elt F) ℓ)

/-! ## The semaphores -/

abbrev barS : Sem sig := (SemArray.scalar (sig.barrier 0 rfl) : Sems sig S_).sem
theorem inb5 (k : Fin 5) : ∀ a, (![k.val] : Fin 1 → ℕ) a + S1.size a ≤ S5.size a := by
  intro a; fin_cases a; exact k.isLt
theorem inb4 (k : Fin 4) : ∀ a, (![k.val] : Fin 1 → ℕ) a + S1.size a ≤ S4.size a := by
  intro a; fin_cases a; exact k.isLt
/-- The semaphore of the local copy of chunk `k` (of the half the device keeps, at `k = 4`). -/
abbrev inS (k : Fin 5) : DmaSem sig := ((cc0_scratch4.slice (Rect.unit (s := S5) ![k.val] S1.size (inb5 k))).squeeze S_ squeezes_S1_S_).sem
/-- The semaphore of the local copy into the result. -/
abbrev keepS : DmaSem sig := (cc0_scratch5 : DmaSems sig S_).sem
abbrev sendS (k : Fin 4) : DmaSem sig := ((cc0_scratch6.slice (Rect.unit (s := S4) ![k.val] S1.size (inb4 k))).squeeze S_ squeezes_S1_S_).sem
abbrev recvS (k : Fin 4) : DmaSem sig := ((cc0_scratch7.slice (Rect.unit (s := S4) ![k.val] S1.size (inb4 k))).squeeze S_ squeezes_S1_S_).sem

/-- The number of each semaphore in the device's pool. -/
theorem inS_val : ∀ k : Fin 5, (inS k).val = k.val := by decide
theorem keepS_val : (keepS).val = 5 := by decide
theorem sendS_val : ∀ k : Fin 4, (sendS k).val = 6 + k.val := by decide
theorem recvS_val : ∀ k : Fin 4, (recvS k).val = 10 + k.val := by decide

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- What one chunk's copy adds to a semaphore. -/
abbrev N : ℕ := (sendChunk 0).view.dmaCredit
theorem N_pos : 0 < N := View.dmaCredit_pos _ (by decide)

/-! ## The pieces of memory as assertions -/

/-- Device `d`'s input on the rows and columns of chunk `k`, as at launch. -/
def xPts (c : Dev nD) (k : Fin 4) : sProp 𝕄 :=
  (xChunk c k).view.loc (c : Thread nD τ) ↦[(xChunk c k).view.set]{fullShare} xBuf m c
/-- Chunk `k` of the buffer the peer's half is staged in. -/
def stagePts (c : Dev nD) (k : Fin 4) (f : Buf (Elt F) ((stageChunk k).view.loc (c : Thread nD τ))) : sProp 𝕄 :=
  (stageChunk k).view.loc (c : Thread nD τ) ↦[(stageChunk k).view.set]{fullShare} f
/-- Chunk `k` of the send buffer. -/
def sendPts (c : Dev nD) (k : Fin 4) (f : Buf (Elt F) ((sendChunk k).view.loc (c : Thread nD τ))) : sProp 𝕄 :=
  (sendChunk k).view.loc (c : Thread nD τ) ↦[(sendChunk k).view.set]{fullShare} f
/-- The rows of device `d`'s result that device `c` fills with its chunk `k`. -/
def outPts (d c : Dev nD) (k : Fin 4) (f : Buf (Elt F) ((outChunk c k).view.loc (d : Thread nD τ))) : sProp 𝕄 :=
  (outChunk c k).view.loc (d : Thread nD τ) ↦[(outChunk c k).view.set]{fullShare} f

/-! ## What each raise hands over -/

def barPay (c : Dev nD) : sProp 𝕄 := bigSep Finset.univ fun k : Fin 4 => iprop(∃ f, outPts (peer c) c k f)
def sendPay (c : Dev nD) (k : Fin 4) : sProp 𝕄 := iprop(∃ f, sendPts c k f)
def recvPay (c : Dev nD) (k : Fin 4) : sProp 𝕄 := outPts c (peer c) k (outF m c)

omit [FloatOps F] in
instance barPay_storable (c : Dev nD) : BI.Storable (upEmb : UEmb _ 𝕄) (barPay (F := F) c) := by unfold barPay outPts; infer_instance
omit [FloatOps F] in
instance sendPay_storable (c : Dev nD) (k : Fin 4) : BI.Storable (upEmb : UEmb _ 𝕄) (sendPay (F := F) c k) := by unfold sendPay sendPts; infer_instance
omit [FloatOps F] in
instance recvPay_storable (c : Dev nD) (k : Fin 4) : BI.Storable (upEmb : UEmb _ 𝕄) (recvPay m c k) := by unfold recvPay outPts; infer_instance

/-- What the round of semaphore `sm` of device `c` hands over. -/
def payOf (c : Dev nD) : SemLoc sig → sProp 𝕄
  | .reg _ => barPay c
  | .dma q => if q.val < 10 then sendPay c (Fin.ofNat 4 (q.val - 6)) else recvPay m c (Fin.ofNat 4 (q.val - 10))
/-- By how much the round of a semaphore raises it. -/
def amountOf : SemLoc sig → ℕ
  | .reg _ => 1
  | .dma _ => N

omit [FloatOps F] in
instance payOf_storable (c : Dev nD) (sm : SemLoc sig) : BI.Storable (upEmb : UEmb _ 𝕄) (payOf m c sm) := by
  cases sm
  · exact barPay_storable c
  · dsimp only [payOf]
    split
    · exact sendPay_storable c _
    · exact recvPay_storable m c _

/-- The schedule: round 0 is the only one, with one raise. -/
def rd : Rounds.Schedule (GSem nD τ sig) Unit 𝕄 where
  duties _ r := if r = 0 then {()} else ∅
  unitless _ := False
  amount g _ _ := amountOf g.2
  payload g _ _ := payOf m g.1.1 g.2
  amount_pos g _ _ _ := by
    rcases g with ⟨_, sm⟩
    cases sm
    · exact Nat.one_pos
    · exact N_pos

omit [FloatOps F] in
instance rd_payload_storable (g : GSem nD τ sig) (r : ℕ) (d : Unit) : BI.Storable (upEmb : UEmb _ 𝕄) ((rd m).payload g r d) :=
  payOf_storable m g.1.1 g.2

section Tables

variable (c : Dev nD) (k : Fin 4)

omit [FloatOps F] in
theorem duties_first (g : GSem nD τ sig) : (rd m).duties g 0 = {()} := by dsimp only [rd]; exact if_pos rfl
omit [FloatOps F] in
theorem mem_duties (g : GSem nD τ sig) : () ∈ (rd m).duties g 0 := by rw [duties_first]; exact Finset.mem_singleton_self _
omit [FloatOps F] in
theorem duties_later (g : GSem nD τ sig) : ∀ r, 1 ≤ r → (rd m).duties g r = ∅ := fun r hr => by
  dsimp only [rd]; exact if_neg (by omega)
omit [FloatOps F] in
/-- The round of a semaphore raises it by `amountOf` of it. -/
theorem expect_first (g : GSem nD τ sig) : (rd m).expect g 0 = amountOf g.2 := by
  unfold Schedule.expect Schedule.amountOf
  rw [duties_first, Finset.sum_singleton]; rfl
omit [FloatOps F] in
/-- The round of a semaphore hands over `payOf` of it. -/
theorem rest_first (g : GSem nD τ sig) : bigSep ((rd m).duties g 0 \ ∅) (fun d => (rd m).payload g 0 d) = payOf m g.1.1 g.2 := by
  rw [Finset.sdiff_empty, duties_first, bigSep_singleton]; rfl
omit [FloatOps F] in
theorem payOf_send : payOf m c (.dma (sendS k)) = sendPay c k := by
  dsimp only [payOf]
  rw [sendS_val, if_pos (by omega)]
  congr 1
  apply Fin.ext; simp only [Fin.ofNat]; omega
omit [FloatOps F] in
theorem payOf_recv : payOf m c (.dma (recvS k)) = recvPay m c k := by
  dsimp only [payOf]
  rw [recvS_val, if_neg (by omega)]
  congr 1
  apply Fin.ext; simp only [Fin.ofNat]; omega

end Tables

/-! ## What a device owes, and the order of the waits -/

/-- Device `c` owes its peer's receive semaphores the chunks from `j` on. -/
def owedFrom (c : Dev nD) (j : ℕ) : CellTallies nD τ sig Unit := ∑ k : Fin 4, if j ≤ k.val then tallyAt (recvCell (peer c) k) () N else 0
/-- At launch: all four chunks, and its peer's barrier one. -/
def O₀ (c : Dev nD) : CellTallies nD τ sig Unit := owedFrom c 0 + tallyAt (barCell (peer c)) () 1

/-- Sending chunk `k` leaves the chunks after it owed. -/
theorem owedFrom_step (c : Dev nD) (k : Fin 4) : owedFrom c k.val = owedFrom c (k.val + 1) + tallyAt (recvCell (peer c) k) () N := by
  unfold owedFrom
  rw [← Finset.add_sum_erase _ _ (Finset.mem_univ k), ← Finset.add_sum_erase _ (fun l : Fin 4 => if k.val + 1 ≤ l.val then _ else _) (Finset.mem_univ k),
    if_pos le_rfl, if_neg (by omega), zero_add, add_comm]
  refine congrArg (· + _) (Finset.sum_congr rfl fun l hl => ?_)
  have hne : l.val ≠ k.val := fun h => (Finset.mem_erase.mp hl).1 (Fin.ext h)
  exact if_congr (by omega) rfl rfl
/-- After the last chunk nothing is owed. -/
theorem owedFrom_four (c : Dev nD) : owedFrom c 4 = 0 := by
  unfold owedFrom
  exact Finset.sum_eq_zero fun k _ => if_neg (by have := k.isLt; omega)

theorem owedFrom_pos {c : Dev nD} {j : ℕ} {g : GSem nD τ sig} {u : Unit} (h : 0 < owedFrom c j g u) : ∃ k, g = recvCell (peer c) k := by
  by_contra hn
  push Not at hn
  have : owedFrom c j g u = 0 := by
    unfold owedFrom
    rw [Finset.sum_apply, Finsupp.finset_sum_apply]
    refine Finset.sum_eq_zero fun k _ => ?_
    split
    · rw [tallyAt_apply, if_neg (fun h' => hn k h'.1)]
    · rfl
  omega

def L (g : GSem nD τ sig) : Finset Unit := if g.1.2 = .tc then {()} else ∅
/-- The receive semaphores stand above all others: a device waits for one only when it owes no chunk any more. -/
def lv (g : GSem nD τ sig) (_ : Unit) : ℕ := match g.2 with
  | .reg _ => 0
  | .dma q => if q.val < 10 then 0 else 1

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 4) : lv (recvCell c k) () = 1 := by
  show (if (recvS k).val < 10 then 0 else 1) = 1
  rw [recvS_val, if_neg (by omega)]
theorem lv_bar (c : Dev nD) : lv (barCell c) () = 0 := rfl
theorem lv_in (c : Dev nD) (k : Fin 5) : lv ((c : Thread nD τ), .dma (inS k)) () = 0 := by
  show (if (inS k).val < 10 then 0 else 1) = 0
  rw [inS_val, if_pos (by omega)]

omit [FloatOps F] in
/-- A device that owes chunks may wait on any semaphore of the low level. -/
theorem mayWait_low (c : Dev nD) (j : ℕ) (sm : SemLoc sig) (h : lv ((c : Thread nD τ), sm) () = 0) :
    (levAts L lv : sProp 𝕄) ⊢ MayWait (c : Thread nD τ) sm () (owedFrom c j) :=
  MayOwe.of_cut (L := L) (lev := lv) 0 (fun p hp => by rw [Finset.mem_singleton.mp hp, L_tc]; exact Finset.mem_singleton_self _)
    (fun g u hg => by obtain ⟨k, rfl⟩ := owedFrom_pos hg; exact Finset.mem_singleton_self _)
    (fun p hp => by rw [Finset.mem_singleton.mp hp]; exact h.le)
    (fun g u hg => by obtain ⟨k, rfl⟩ := owedFrom_pos hg; rw [lv_recv]; exact Nat.one_pos)

/-! ## The cells of the protocol -/

/-- The semaphores of the protocol on one device: the barrier, and per chunk the send (`false`) and the receive (`true`) one. -/
abbrev Kd : Type := Option (Bool × Fin 4)
abbrev ksem : Kd → SemLoc sig
  | none => .reg barS
  | some (false, k) => .dma (sendS k)
  | some (true, k) => .dma (recvS k)
abbrev kcell (x : Dev nD × Kd) : GSem nD τ sig := ((x.1 : Thread nD τ), ksem x.2)

/-- What every device knows of the protocol: the invariant of every cell, and that every cell has reached its round. -/
def known (K : Dev nD × Kd → ℕ) : sProp 𝕄 :=
  iprop((bigSep Finset.univ fun x => cellInv ER (rd m) (K x) (kcell x)) ∗ (bigSep Finset.univ fun x => reached ER (kcell x) 0))

instance known_persistent (K : Dev nD × Kd → ℕ) : BI.Persistent (known m K) := by unfold known; infer_instance

omit [FloatOps F] in
theorem known_inv (K : Dev nD × Kd → ℕ) (x : Dev nD × Kd) : known m K ⊢ cellInv ER (rd m) (K x) (kcell x) := by
  have h : (bigSep Finset.univ fun x => (cellInv ER (rd m) (K x) (kcell x) : sProp 𝕄)) ⊢ cellInv ER (rd m) (K x) (kcell x) :=
    bigSep_elim (Finset.mem_univ x)
  unfold known
  iintro ⟨H, -⟩
  iapply h $$ H
omit [FloatOps F] in
theorem known_reached (K : Dev nD × Kd → ℕ) (x : Dev nD × Kd) : known m K ⊢ reached ER (kcell x) 0 := by
  have h : (bigSep Finset.univ fun x => (reached ER (kcell x) 0 : sProp 𝕄)) ⊢ reached ER (kcell x) 0 :=
    bigSep_elim (Finset.mem_univ x)
  unfold known
  iintro ⟨-, H⟩
  iapply h $$ H

end Cert.Exchange

end
-- ==== Proof.Step.lean ====
/-
# One chunk, from its fetch to its arrival

Each chunk `k` goes through the same three stretches of the kernel: its local copy out of the input is started
(`wp_fetch`); that copy is waited for, the chunk moved into the send buffer and its remote copy started
(`wp_forward`); the remote copy's two semaphores are waited for (`wp_collect`). Each stretch is proved here once, for
every device and every chunk. The half the device keeps goes through `wp_keep`.
-/
module

public import proofs.«01_k».proof.Proof.Protocol

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EC : UEmb Counters (MT nD τ sig Unit (Elt F) ℕ UU ℕ) := countersEmb
abbrev 𝒱₀ : Variants := Variants.none

variable (m : (ℓ : Loc nD τ sig) → Buf (Elt F) ℓ)

/-! ## Contents -/

omit [FloatOps F] in
/-- A chunk landed in the peer's result holds what the result must hold there. -/
theorem land_chunk (c : Dev nD) (k : Fin 4) (fd : Buf (Elt F) ((outChunk c k).view.loc (peer c : Thread nD τ)))
    (w : S128x512.Idx → Elt F .bf16) (hw : w = sent m c k) :
    (((outChunk c k).view.loc (peer c : Thread nD τ) ↦[(outChunk c k).view.set]{fullShare} (outChunk c k).view.write (Elt F) fd w Finset.univ) : sProp 𝕄)
      ⊢ recvPay m (peer c) k := by
  unfold recvPay
  rw [peer_peer]
  unfold outPts
  refine Entails.of_eq (pointsTo_congr fun i hi => ?_)
  obtain ⟨x, -, rfl⟩ := Finset.mem_map.mp hi
  rw [View.write_emb_of_mem _ _ (Finset.mem_univ x), outF_chunk, hw]
  rfl

/-- The rows of device `c`'s result that it fills itself. -/
def keepOutPts (c : Dev nD) (f : Buf (Elt F) ((outKeep c).view.loc (c : Thread nD τ))) : sProp 𝕄 :=
  (outKeep c).view.loc (c : Thread nD τ) ↦[(outKeep c).view.set]{fullShare} f
/-- The half of device `c`'s input that it keeps, as at launch. -/
def xKeepPts (c : Dev nD) : sProp 𝕄 := (xKeep c).view.loc (c : Thread nD τ) ↦[(xKeep c).view.set]{fullShare} xBuf m c

omit [FloatOps F] in
/-- The half landed in the device's own result holds what the result must hold there. -/
theorem land_keep (c : Dev nD) (fd : Buf (Elt F) ((outKeep c).view.loc (c : Thread nD τ))) (w : S512x512.Idx → Elt F .bf16) (hw : w = kept m c) :
    (((outKeep c).view.loc (c : Thread nD τ) ↦[(outKeep c).view.set]{fullShare} (outKeep c).view.write (Elt F) fd w Finset.univ) : sProp 𝕄)
      ⊢ keepOutPts c (outF m c) := by
  unfold keepOutPts
  refine Entails.of_eq (pointsTo_congr fun i hi => ?_)
  obtain ⟨x, -, rfl⟩ := Finset.mem_map.mp hi
  rw [View.write_emb_of_mem _ _ (Finset.mem_univ x), outF_keep, hw]
  rfl

/-! ## The states of a chunk -/

/-- Device `c` owes `O`, whatever it has waited for. -/
def owing (c : Dev nD) (O : CellTallies nD τ sig Unit) : sProp 𝕄 := iprop(∃ W, owes (c : Thread nD τ) O W)

/-- Before its fetch: the pieces of memory it passes through, its local semaphore at zero, the right to raise its own
    send and the peer's receive semaphore, the positions at its own two, and the credit to wait for the peer's chunk. -/
def ready (c : Dev nD) (k : Fin 4) : sProp 𝕄 :=
  iprop(xPts m c k ∗ (∃ f, stagePts c k f) ∗ (∃ f, sendPts c k f) ∗ semVal ((c : Thread nD τ), .dma (inS k.castSucc)) 0
    ∗ dutyTok ER (sendCell c k) 0 () ∗ dutyTok ER (recvCell (peer c) k) 0 ()
    ∗ atPos ER (sendCell c k) 0 ∅ 0 ∗ atPos ER (recvCell c k) 0 ∅ 0 ∗ cred (tallyAt (recvCell c k) () N))

/-- While its local copy is in flight. -/
def fetching (c : Dev nD) (k : Fin 4) : sProp 𝕄 :=
  iprop((∃ fd, Transfers.Flight EC (c : Thread nD τ) (.dma (inS k.castSucc)) () N
        iprop(stagePts c k ((stageChunk k).view.write (Elt F) fd (sent m c k) Finset.univ) ∗ xPts m c k))
    ∗ (∃ f, sendPts c k f)
    ∗ dutyTok ER (sendCell c k) 0 () ∗ dutyTok ER (recvCell (peer c) k) 0 ()
    ∗ atPos ER (sendCell c k) 0 ∅ 0 ∗ atPos ER (recvCell c k) 0 ∅ 0 ∗ cred (tallyAt (recvCell c k) () N))

/-- While its remote copy is in flight. -/
def forwarded (c : Dev nD) (k : Fin 4) : sProp 𝕄 :=
  iprop(xPts m c k ∗ (∃ f, stagePts c k f) ∗ semVal ((c : Thread nD τ), .dma (inS k.castSucc)) 0
    ∗ cred (tallyAt (sendCell c k) () N)
    ∗ atPos ER (sendCell c k) 0 ∅ 0 ∗ atPos ER (recvCell c k) 0 ∅ 0 ∗ cred (tallyAt (recvCell c k) () N))

/-- When it has left and the peer's has arrived: the memory back, the peer's rows of the result filled, and the three
    semaphores at zero. -/
def collected (c : Dev nD) (k : Fin 4) : sProp 𝕄 :=
  iprop(xPts m c k ∗ (∃ f, stagePts c k f) ∗ (∃ f, sendPts c k f) ∗ outPts c (peer c) k (outF m c)
    ∗ semVal ((c : Thread nD τ), .dma (inS k.castSucc)) 0 ∗ semVal (sendCell c k) 0 ∗ semVal (recvCell c k) 0)

section Steps

variable (K : Dev nD × Kd → ℕ) (c : Dev nD) (k : Fin 4)
variable {α : Type} {Q : α → sProp (MT nD τ sig Unit (Elt F) ℕ UU ℕ)} {J : PUnit → Prog (TpuEff nD τ sig (Elt F) Λ₀ .tc) α}

/-- Starting the local copy of a chunk. -/
theorem wp_fetch {hsrc : (xChunk c k).view.WordExact} {hdst : (stageChunk k).view.WordExact}
    {hsem : DmaTarget.Typed (nD := nD) (τ := τ) (p := .tc) .hbm (.dma (inS k.castSucc)) (.here (stageChunk k))} :
    ready m c k
      ⊢ iprop((fetching m c k -∗ wp frame (wpE (defs₀ (F := F)) 𝒱₀ (c : Thread nD τ) none) Set.univ (J ⟨⟩) Q)
          -∗ wp frame (wpE (defs₀ (F := F)) 𝒱₀ (c : Thread nD τ) none) Set.univ
              (.op (.enqueueDma (xChunk c k) (.here (stageChunk k)) (.dma (inS k.castSucc)) hsrc hdst hsem) J) Q) := by
  unfold ready
  iintro ⟨Hx, ⟨%fd, Hst⟩, Hsend, Hv, Hrest⟩ HJ
  unfold xPts stagePts
  iapply (Transfers.wp_dmaLocal EC 𝒱₀ (c : Thread nD τ) none (src := xChunk c k) (via := .same) (dst := stageChunk k) () N rfl N_pos subset_rfl)
    $$ [Hx Hst Hv]
  · isplitl [Hx]; · iexact Hx
    isplitl [Hst]; · iexact Hst
    iexact Hv
  iintro Hfl
  iapply HJ
  unfold fetching xPts stagePts
  isplitl [Hfl]; · iexists fd; iexact Hfl
  isplitl [Hsend]; · iexact Hsend
  iexact Hrest

omit [FloatOps F] in
/-- The send semaphore's raise hands the chunk of the send buffer back. -/
theorem send_pays (f : Buf (Elt F) ((sendChunk k).view.loc (c : Thread nD τ))) : sendPts c k f ⊢ (rd m).payload (sendCell c k) 0 () := by
  show _ ⊢ payOf m c (.dma (sendS k))
  rw [payOf_send]
  unfold sendPay
  iintro H; iexists f; iexact H

omit [FloatOps F] in
/-- The peer's receive semaphore's raise hands the filled rows of its result over. -/
theorem recv_pays (fd : Buf (Elt F) ((outChunk c k).view.loc (peer c : Thread nD τ))) (w : S128x512.Idx → Elt F .bf16) (hw : w = sent m c k) :
    (((outChunk c k).view.loc (peer c : Thread nD τ) ↦[(outChunk c k).view.set]{fullShare} (outChunk c k).view.write (Elt F) fd w Finset.univ) : sProp 𝕄)
      ⊢ (rd m).payload (recvCell (peer c) k) 0 () := by
  show _ ⊢ payOf m (peer c) (.dma (recvS k))
  rw [payOf_recv]
  exact land_chunk m c k fd w hw

/-- Starting the remote copy of a chunk, the send buffer holding what is to be sent. -/
theorem wp_send_chunk (fs : Buf (Elt F) ((sendChunk k).view.loc (c : Thread nD τ))) (fo : Buf (Elt F) ((outChunk c k).view.loc (peer c : Thread nD τ)))
    (hfs : (sendChunk k).view.read (Elt F) fs = sent m c k) (W : Waits sig Unit)
    {hsc : (outChunk c k : Memref sig (peer c : Thread nD τ).2.kind .hbm S128x512 .bf16).view.ref.isScScratch = false}
    {h7 : (sendChunk k).view.WordExact} {h8 : (outChunk c k).view.WordExact}
    {h9 : DmaTarget.Typed .vmem (.dma (recvS k)) (.remote (peer c : Thread nD τ) (outChunk c k) (.dma (sendS k)) hsc)} :
    iprop(known m K ∗ sendPts c k fs ∗ outPts (peer c) c k fo ∗ owes (c : Thread nD τ) (owedFrom c k.val) W
        ∗ dutyTok ER (sendCell c k) 0 () ∗ dutyTok ER (recvCell (peer c) k) 0 ())
      ⊢ iprop(((cred (tallyAt (sendCell c k) () N) ∗ owes (c : Thread nD τ) (owedFrom c (k.val + 1)) W)
            -∗ wp frame (wpE (defs₀ (F := F)) 𝒱₀ (c : Thread nD τ) none) Set.univ (J ⟨⟩) Q)
          -∗ wp frame (wpE (defs₀ (F := F)) 𝒱₀ (c : Thread nD τ) none) Set.univ
              (.op (.enqueueDma (sendChunk k) (.remote (peer c : Thread nD τ) (outChunk c k) (.dma (sendS k)) hsc) (.dma (recvS k)) h7 h8 h9) J) Q) := by
  iintro ⟨#Hkn, Hsend, Hout, HO, HtS, HtR⟩
  ihave #Hi₁ := (known_inv m K (c, some (false, k))) $$ Hkn
  ihave #Hi₂ := (known_inv m K (peer c, some (true, k))) $$ Hkn
  ihave #Hr₁ := (known_reached m K (c, some (false, k))) $$ Hkn
  ihave #Hr₂ := (known_reached m K (peer c, some (true, k))) $$ Hkn
  iapply (Rounds.wp_send_pointsTo 𝒱₀ ER (rd m) (c : Thread nD τ) none (c' := (peer c : Thread nD τ)) (src := sendChunk k) (dst := outChunk c k)
      (q := fullShare) (fs := fs) (fd := fo) (κ₁ := K (c, some (false, k))) (κ₂ := K (peer c, some (true, k)))
      (r₁ := 0) (r₂ := 0) (d₁ := ()) (d₂ := ()) (mem_duties m _) (mem_duties m _)
      () () N rfl rfl rfl (owedFrom c (k.val + 1)) (owedFrom_step c k) (send_pays m c k fs) (recv_pays m c k fo _ hfs))
  isplitr; · iexact Hi₁
  isplitr; · iexact Hi₂
  isplitl [Hsend]; · unfold sendPts; iexact Hsend
  isplitl [Hout]; · unfold outPts; iexact Hout
  isplitl [HO]; · iexact HO
  isplitl [HtS]; · iexact HtS
  isplitr; · iexact Hr₁
  isplitl [HtR]; · iexact HtR
  iexact Hr₂

set_option maxHeartbeats 800000 in
/-- Waiting for the local copy of a chunk, moving the chunk into the send buffer and starting its remote copy: the
    device owes one chunk less. `pay` is what the kernel applies to the chunk on the way, which changes nothing. -/
theorem wp_forward (n : Dev nD) (hn : n = peer c) (pay : (S128x512.Idx → Elt F .bf16) → S128x512.Idx → Elt F .bf16) (hpay : ∀ v, pay v = v)
    {h1 : (xChunk c k).view.WordExact} {h2 : (stageChunk k).view.WordExact}
    {h3 : stageM.view.LoadsAt (rowRect k).toLoadRect} {h4 : sendM.view.LoadsAt (rowRect k).toLoadRect}
    {h5 : (sendM.access (rowRect k)).Stores Finset.univ} {h6 : (Finset.univ : Finset (rowRect k).shape.Idx) = Finset.univ ∨ ∀ a, (rowRect k).stride a = 1}
    {hsc : (outChunk c k : Memref sig (Dev.tc n : Thread nD τ).2.kind .hbm S128x512 .bf16).view.ref.isScScratch = false}
    {h7 : (sendChunk k).view.WordExact} {h8 : (outChunk c k).view.WordExact}
    {h9 : DmaTarget.Typed .vmem (.dma (recvS k)) (.remote (Dev.tc n : Thread nD τ) (outChunk c k) (.dma (sendS k)) hsc)} :
    iprop(known m K ∗ levAts L lv ∗ fetching m c k ∗ (∃ f, outPts (peer c) c k f) ∗ owing c (owedFrom c k.val))
      ⊢ iprop(((forwarded m c k ∗ owing c (owedFrom c (k.val + 1))) -∗ wp frame (wpE (defs₀ (F := F)) 𝒱₀ (c : Thread nD τ) none) Set.univ (J ⟨⟩) Q)
          -∗ wp frame (wpE (defs₀ (F := F)) 𝒱₀ (c : Thread nD τ) none) Set.univ
              (.op (.waitDma2 (inS k.castSucc) (xChunk c k) (stageChunk k) h1 h2) fun _ =>
                .op (.load stageM (rowRect k).toLoadRect h3) fun v =>
                .op (.load sendM (rowRect k).toLoadRect h4) fun _ =>
                .op (.store sendM (rowRect k) (pay v) Finset.univ h5 h6) fun _ =>
                .op (.enqueueDma (sendChunk k) (.remote (Dev.tc n : Thread nD τ) (outChunk c k) (.dma (sendS k)) hsc) (.dma (recvS k)) h7 h8 h9) J) Q) := by
  subst hn
  unfold fetching owing
  iintro ⟨#Hkn, #Hlev, ⟨⟨%fd, Hfl⟩, ⟨%fs, Hsend⟩, HtS, HtR, HaS, HaR, HcR⟩, ⟨%fo, Hout⟩, ⟨%W, HO⟩⟩ HJ
  -- the wait for the local copy
  iapply (Transfers.wp_waitLocalO EC 𝒱₀ (c : Thread nD τ) none (srcw := xChunk c k) (dstw := stageChunk k) () (N := N) rfl) $$ [Hfl HO]
  · isplitl [Hfl]; · iexact Hfl
    isplitl [HO]; · iexact HO
    iapply (mayWait_low c k.val (.dma (inS k.castSucc)) (lv_in c k.castSucc)) $$ Hlev
  iintro ⟨⟨Hst, Hx⟩, Hv, HO⟩
  generalize insert (SemLoc.dma (inS k.castSucc), ()) W = W'
  -- the two loads and the store
  unfold stagePts sendPts
  iapply (wp_load_rect 𝒱₀ (c : Thread nD τ) none Set.univ (m := stageM) (r := rowRect k) subset_rfl) $$ Hst
  iintro Hst
  iapply (wp_load_rect 𝒱₀ (c : Thread nD τ) none Set.univ (m := sendM) (r := rowRect k) subset_rfl) $$ Hsend
  iintro Hsend
  iapply (wp_store 𝒱₀ (c : Thread nD τ) none Set.univ (m := sendM) (r := rowRect k) (Mk := Finset.univ) (S := (sendChunk k).view.set) (fun _ h => h)) $$ Hsend
  iintro Hsend
  rw [hpay]
  -- the remote copy
  iapply (wp_send_chunk m K c k _ fo ((View.read_write_univ _ _).trans (View.read_write_univ _ _)) W') $$ [Hsend Hout HO HtS HtR]
  · isplitr; · iexact Hkn
    isplitl [Hsend]; · unfold sendPts; iexact Hsend
    isplitl [Hout]; · iexact Hout
    isplitl [HO]; · iexact HO
    isplitl [HtS] <;> iassumption
  iintro ⟨HcS, HO⟩
  iapply HJ
  isplitr [HO]
  · unfold forwarded stagePts
    isplitl [Hx]; · iexact Hx
    isplitl [Hst]; · iexists _; iexact Hst
    isplitl [Hv]; · iexact Hv
    isplitl [HcS]; · iexact HcS
    isplitl [HaS]; · iexact HaS
    isplitl [HaR] <;> iassumption
  · iexists _; iexact HO

/-- Waiting for the remote copy of a chunk to have left and for the peer's to have arrived. -/
theorem wp_collect {h1 : (outChunk c k).view.WordExact} {h2 : (sendChunk k).view.WordExact}
    {h3 : (sendChunk k).view.WordExact} {h4 : (outChunk c k).view.WordExact} :
    iprop(known m K ∗ forwarded m c k ∗ owing c 0)
      ⊢ iprop(((collected m c k ∗ owing c 0) -∗ wp frame (wpE (defs₀ (F := F)) 𝒱₀ (c : Thread nD τ) none) Set.univ (J ⟨⟩) Q)
          -∗ wp frame (wpE (defs₀ (F := F)) 𝒱₀ (c : Thread nD τ) none) Set.univ
              (.op (.waitDma2 (sendS k) (outChunk c k) (sendChunk k) h1 h2) fun _ =>
                .op (.waitDma2 (recvS k) (sendChunk k) (outChunk c k) h3 h4) J) Q) := by
  unfold forwarded owing
  iintro ⟨#Hkn, ⟨Hx, Hst, Hv, HcS, HaS, HaR, HcR⟩, ⟨%W, HO⟩⟩ HJ
  ihave #HiS := (known_inv m K (c, some (false, k))) $$ Hkn
  ihave #HiR := (known_inv m K (c, some (true, k))) $$ Hkn
  iapply (Rounds.wp_wait_rest_token 𝒱₀ ER (rd m) (c : Thread nD τ) none (κ := K (c, some (false, k)))
      (wpE_waitDma2_eq 𝒱₀ (c : Thread nD τ) none Set.univ) (Set.mem_univ _) () (O := 0) (R := 0) (m := 0) (T := ∅)
      (by rw [Nat.zero_add, expect_first]; rfl)) $$ [HcS HO HaS]
  · isplitr; · iexact HiS
    isplitl [HcS]; · iexact HcS
    isplitl [HO]; · iexact HO
    isplitr; · rw [MayWait_zero]; iempintro
    iexact HaS
  iintro ⟨HO, HaS, -, Hp⟩
  ihave Hsend := (Entails.of_eq ((rest_first m (sendCell c k)).trans (payOf_send m c k))) $$ Hp
  iapply (Rounds.wp_wait_rest_token 𝒱₀ ER (rd m) (c : Thread nD τ) none (κ := K (c, some (true, k)))
      (wpE_waitDma2_eq 𝒱₀ (c : Thread nD τ) none Set.univ) (Set.mem_univ _) () (O := 0) (R := 0) (m := 0) (T := ∅)
      (by rw [Nat.zero_add, expect_first]; rfl)) $$ [HcR HO HaR]
  · isplitr; · iexact HiR
    isplitl [HcR]; · iexact HcR
    isplitl [HO]; · iexact HO
    isplitr; · rw [MayWait_zero]; iempintro
    iexact HaR
  iintro ⟨HO, HaR, -, Hp⟩
  ihave Hout := (Entails.of_eq ((rest_first m (recvCell c k)).trans (payOf_recv m c k))) $$ Hp
  imod (Rounds.cell_close ER (rd m) (Set.mem_univ (K (c, some (false, k)))) (fun h => h) (R := 0 + 1) (duties_later m (sendCell c k))) $$ [HaS] with HzS
  · isplitr; · iexact HiS
    iexact HaS
  imod (Rounds.cell_close ER (rd m) (Set.mem_univ (K (c, some (true, k)))) (fun h => h) (R := 0 + 1) (duties_later m (recvCell c k))) $$ [HaR] with HzR
  · isplitr; · iexact HiR
    iexact HaR
  iapply HJ
  isplitr [HO]
  · unfold collected
    isplitl [Hx]; · iexact Hx
    isplitl [Hst]; · iexact Hst
    isplitl [Hsend]; · unfold sendPay; iexact Hsend
    isplitl [Hout]; · unfold recvPay; iexact Hout
    isplitl [Hv]; · iexact Hv
    isplitl [HzS] <;> iassumption
  · iexists _; iexact HO

/-! ## The half the device keeps -/

/-- The whole of a 512 × 512 buffer, as the rectangle the kernel loads and stores. -/
abbrev allRect : Rect S512x512 := Rect.unit (s := S512x512) ![0, 0] S512x512.size inb_S512x512_S512x512_0_0

theorem zero_off : (![0, 0] : Fin 2 → ℕ) = fun _ => 0 := funext fun a => by fin_cases a <;> rfl

omit [FloatOps F] in
theorem read_own (f : (cc0_scratch1 : Ref sig .tc).ty.Contents (Elt F)) : ownM.view.readAt (Elt F) allRect.toLoadRect f = f :=
  Memref.readAt_unit_zero (Elt F) cc0_scratch1 zero_off _ f
omit [FloatOps F] in
theorem write_keep (f w : (cc0_scratch3 : Ref sig .tc).ty.Contents (Elt F)) :
    ((keepM).access allRect : View sig .tc _ _ _).write (Elt F) f w Finset.univ = w :=
  Memref.write_access_unit_zero_univ (Elt F) cc0_scratch3 zero_off _ f w
omit [FloatOps F] in
theorem write_own (f w : (cc0_scratch1 : Ref sig .tc).ty.Contents (Elt F)) : (ownM).view.write (Elt F) f w Finset.univ = w :=
  View.write_whole_univ _ _ _

/-- The memory and the two semaphores the kept half passes through. -/
def keeping (c : Dev nD) (out : sProp (MT nD τ sig Unit (Elt F) ℕ UU ℕ)) : sProp 𝕄 :=
  iprop(xKeepPts m c ∗ (∃ f : Buf (Elt F) ((c : Thread nD τ).loc cc0_scratch1), ((c : Thread nD τ).loc cc0_scratch1) ↦{fullShare} f)
    ∗ (∃ f : Buf (Elt F) ((c : Thread nD τ).loc cc0_scratch3), ((c : Thread nD τ).loc cc0_scratch3) ↦{fullShare} f)
    ∗ out ∗ semVal ((c : Thread nD τ), .dma (inS 4)) 0 ∗ semVal ((c : Thread nD τ), .dma keepS) 0)

/-- The half the device keeps: copied in, moved between two buffers, and copied out into its own rows of the result. -/
theorem wp_keep (pay : (S512x512.Idx → Elt F .bf16) → S512x512.Idx → Elt F .bf16) (hpay : ∀ v, pay v = v)
    {h1 : (xKeep c).view.WordExact} {h2 : ownM.view.WordExact} {h3 : DmaTarget.Typed (nD := nD) (τ := τ) (p := .tc) .hbm (.dma (inS 4)) (.here ownM)}
    {h4 : (xKeep c).view.WordExact} {h5 : ownM.view.WordExact}
    {h6 : ownM.view.LoadsAt allRect.toLoadRect} {h7 : keepM.view.LoadsAt allRect.toLoadRect}
    {h8 : (keepM.access allRect).Stores Finset.univ} {h9 : (Finset.univ : Finset allRect.shape.Idx) = Finset.univ ∨ ∀ a, allRect.stride a = 1}
    {h10 : keepM.view.WordExact} {h11 : (outKeep c).view.WordExact}
    {h12 : DmaTarget.Typed (nD := nD) (τ := τ) (p := .tc) .vmem (.dma keepS) (.here (outKeep c))}
    {h13 : keepM.view.WordExact} {h14 : (outKeep c).view.WordExact} :
    iprop(keeping m c iprop(∃ f, keepOutPts c f) ∗ owing c 0)
      ⊢ iprop(((keeping m c (keepOutPts c (outF m c)) ∗ owing c 0) -∗ wp frame (wpE (defs₀ (F := F)) 𝒱₀ (c : Thread nD τ) none) Set.univ (J ⟨⟩) Q)
          -∗ wp frame (wpE (defs₀ (F := F)) 𝒱₀ (c : Thread nD τ) none) Set.univ
              (.op (.enqueueDma (xKeep c) (.here ownM) (.dma (inS 4)) h1 h2 h3) fun _ =>
                .op (.waitDma2 (inS 4) (xKeep c) ownM h4 h5) fun _ =>
                .op (.load ownM allRect.toLoadRect h6) fun v =>
                .op (.load keepM allRect.toLoadRect h7) fun _ =>
                .op (.store keepM allRect (pay v) Finset.univ h8 h9) fun _ =>
                .op (.enqueueDma keepM (.here (outKeep c)) (.dma keepS) h10 h11 h12) fun _ =>
                .op (.waitDma2 keepS keepM (outKeep c) h13 h14) J) Q) := by
  unfold keeping owing
  iintro ⟨⟨Hx, ⟨%fo, Hown⟩, ⟨%fk, Hkeep⟩, ⟨%fd, Hout⟩, Hv, Hw⟩, ⟨%W, HO⟩⟩ HJ
  unfold xKeepPts
  iapply (Transfers.wp_dmaLocal EC 𝒱₀ (c : Thread nD τ) none (src := xKeep c) (via := .same) (dst := ownM) (Sd := Finset.univ) ()
      ((ownM).view.dmaCredit) rfl (View.dmaCredit_pos _ (by decide)) (Finset.subset_univ _)) $$ [Hx Hown Hv]
  · isplitl [Hx]; · iexact Hx
    isplitl [Hown]; · iexact Hown
    iexact Hv
  iintro Hfl
  iapply (Transfers.wp_waitLocal EC 𝒱₀ (c : Thread nD τ) none (srcw := xKeep c) (dstw := ownM) () rfl) $$ [Hfl HO]
  · isplitl [Hfl] <;> iassumption
  iintro ⟨⟨Hown, Hx⟩, Hv, HO⟩
  rw [write_own]
  iapply (wp_load 𝒱₀ (c : Thread nD τ) none Set.univ (m := ownM) (Finset.subset_univ _)) $$ Hown
  iintro Hown
  rw [read_own]
  iapply (wp_load 𝒱₀ (c : Thread nD τ) none Set.univ (m := keepM) (Finset.subset_univ _)) $$ Hkeep
  iintro Hkeep
  iapply (wp_store 𝒱₀ (c : Thread nD τ) none Set.univ (m := keepM) (r := allRect) (Mk := Finset.univ) (Finset.subset_univ _)) $$ Hkeep
  iintro Hkeep
  rw [hpay, write_keep]
  unfold keepOutPts
  iapply (Transfers.wp_dmaLocal EC 𝒱₀ (c : Thread nD τ) none (src := keepM) (via := .same) (dst := outKeep c) ()
      ((outKeep c).view.dmaCredit) rfl (View.dmaCredit_pos _ (by decide)) subset_rfl) $$ [Hkeep Hout Hw]
  · isplitl [Hkeep]; · rw [View.set_whole]; iexact Hkeep
    isplitl [Hout]; · iexact Hout
    iexact Hw
  iintro Hfl
  iapply (Transfers.wp_waitLocal EC 𝒱₀ (c : Thread nD τ) none (srcw := keepM) (dstw := outKeep c) () rfl) $$ [Hfl HO]
  · isplitl [Hfl] <;> iassumption
  iintro ⟨⟨Hout, Hkeep⟩, Hw, HO⟩
  ihave Hout := (land_keep m c fd (ReadAs.same.apply (View.read (Elt F) keepM.view (ReadAs.same.apply (View.read (Elt F) (xKeep c).view (xBuf m c))))) rfl) $$ Hout
  iapply HJ
  isplitr [HO]
  · isplitl [Hx]; · iexact Hx
    isplitl [Hown]; · iexists _; iexact Hown
    isplitl [Hkeep]; · iexists _; rw [View.set_whole]; iexact Hkeep
    isplitl [Hout]; · unfold keepOutPts; iexact Hout
    isplitl [Hv] <;> iassumption
  · iexists _; iexact HO

end Steps

end Cert.Exchange

end
-- ==== Proof.Body.lean ====
/-
# The kernel on one device

The kernel's body, run from the state a device starts in (`before`) to the state it ends in (`finished`): the peer's
barrier is raised, the four chunks fetched, the device's own barrier waited for, the four chunks forwarded, the kept
half moved, and the four chunks collected. Each chunk's stretches are the lemmas of `Step`.
-/
module

public import proofs.«01_k».proof.Proof.Step
public import Idealize.ShloMosaic.Lib.Pipeline.Value

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What a device starts from: its barrier's position and credit, the right to raise its peer's barrier, its four chunks
    ready, the memory of the kept half, and the rows of its result that its peer will fill. -/
def before (c : Dev nD) : sProp 𝕄 :=
  iprop(atPos ER (barCell c) 0 ∅ 0 ∗ cred (tallyAt (barCell c) () 1) ∗ dutyTok ER (barCell (peer c)) 0 ()
    ∗ (bigSep Finset.univ fun k : Fin 4 => ready m c k) ∗ keeping m c iprop(∃ f, keepOutPts c f)
    ∗ (bigSep Finset.univ fun k : Fin 4 => iprop(∃ f, outPts c (peer c) k f)))

/-- What it ends with: the four chunks collected, the kept half in place, and its barrier at zero. -/
def finished (c : Dev nD) : sProp 𝕄 :=
  iprop((bigSep Finset.univ fun k : Fin 4 => collected m c k) ∗ keeping m c (keepOutPts c (outF m c)) ∗ semVal (barCell c) 0)

section Body

variable (K : Dev nD × Kd → ℕ) (c : Dev nD)
variable {α : Type} {Q : α → sProp (MT nD τ sig Unit (Elt F) ℕ UU ℕ)} {J : PUnit → Prog (TpuEff nD τ sig (Elt F) Λ₀ .tc) α}

/-- Raising the peer's barrier hands it the rows of the result that it will fill. -/
theorem wp_announce (n : Dev nD) (hn : n = peer c) (r : ℕ) (hr : r = 1) :
    iprop(known m K ∗ dutyTok ER (barCell (peer c)) 0 () ∗ (bigSep Finset.univ fun k : Fin 4 => iprop(∃ f, outPts c (peer c) k f)) ∗ owing c (O₀ c))
      ⊢ iprop((owing c (owedFrom c 0) -∗ wp frame (wpE (defs₀ (F := F)) 𝒱₀ (c : Thread nD τ) none) Set.univ (J ⟨⟩) Q)
          -∗ wp frame (wpE (defs₀ (F := F)) 𝒱₀ (c : Thread nD τ) none) Set.univ (.op (.semSignal (n : Thread nD τ) barS r) J) Q) := by
  subst hn hr
  unfold owing O₀
  iintro ⟨#Hkn, Ht, Hout, ⟨%W, HO⟩⟩ HJ
  ihave #Hi := (known_inv m K (peer c, none)) $$ Hkn
  ihave #Hr := (known_reached m K (peer c, none)) $$ Hkn
  iapply (Rounds.wp_signal 𝒱₀ ER (rd m) (c : Thread nD τ) none (dst := (peer c : Thread nD τ)) (κ := K (peer c, none)) (r := 0)
      (d := ()) (mem_duties m _) rfl () (owedFrom c 0) rfl) $$ [HO Ht Hout]
  · isplitr; · iexact Hi
    isplitl [HO]; · iexact HO
    isplitl [Ht]; · iexact Ht
    isplitl [Hout]
    · iapply (show (bigSep Finset.univ fun k : Fin 4 => iprop(∃ f, outPts c (peer c) k f)) ⊢ (rd m).payload (barCell (peer c)) 0 () from by
        show _ ⊢ barPay (peer c)
        unfold barPay
        rw [peer_peer])
      iexact Hout
    iexact Hr
  iintro HO
  iapply HJ
  iexists _; iexact HO

/-- Waiting for the barrier: the peer's rows of its result are the device's to fill. -/
theorem wp_await (r : ℕ) (hr : r = 1) :
    iprop(known m K ∗ levAts L lv ∗ atPos ER (barCell c) 0 ∅ 0 ∗ cred (tallyAt (barCell c) () 1) ∗ owing c (owedFrom c 0))
      ⊢ iprop((((bigSep Finset.univ fun k : Fin 4 => iprop(∃ f, outPts (peer c) c k f)) ∗ semVal (barCell c) 0 ∗ owing c (owedFrom c 0))
            -∗ wp frame (wpE (defs₀ (F := F)) 𝒱₀ (c : Thread nD τ) none) Set.univ (J ⟨⟩) Q)
          -∗ wp frame (wpE (defs₀ (F := F)) 𝒱₀ (c : Thread nD τ) none) Set.univ (.op (.semWait barS r) J) Q) := by
  subst hr
  unfold owing
  iintro ⟨#Hkn, #Hlev, Hat, Hcr, ⟨%W, HO⟩⟩ HJ
  ihave #Hi := (known_inv m K (c, none)) $$ Hkn
  iapply (Rounds.wp_wait_rest_token 𝒱₀ ER (rd m) (c : Thread nD τ) none (κ := K (c, none))
      (wpE_semWait_eq 𝒱₀ (c : Thread nD τ) none Set.univ) (Set.mem_univ _) () (O := owedFrom c 0) (R := 0) (m := 0) (T := ∅)
      (by rw [Nat.zero_add, expect_first]; rfl)) $$ [Hcr HO Hat]
  · isplitr; · iexact Hi
    isplitl [Hcr]; · iexact Hcr
    isplitl [HO]; · iexact HO
    isplitr; · iapply (mayWait_low c 0 (.reg barS) (lv_bar c)) $$ Hlev
    iexact Hat
  iintro ⟨HO, Hat, -, Hp⟩
  ihave Hp := (Entails.of_eq ((rest_first m (barCell c)).trans (show payOf m c (.reg barS) = barPay c from rfl))) $$ Hp
  imod (Rounds.cell_close ER (rd m) (Set.mem_univ (K (c, none))) (fun h => h) (R := 0 + 1) (duties_later m (barCell c))) $$ [Hat] with Hz
  · isplitr; · iexact Hi
    iexact Hat
  iapply HJ
  isplitl [Hp]; · unfold barPay; iexact Hp
  isplitl [Hz]; · iexact Hz
  iexists _; iexact HO

/-- The five payloads of the kernel are casts between equal shapes: they change nothing. -/
theorem pay1_eq (v : S128x512.Idx → Elt F .bf16) : k0_pay1 (F := F) v = v := shapeCast_self _ _
theorem pay2_eq (v : S128x512.Idx → Elt F .bf16) : k0_pay2 (F := F) v = v := shapeCast_self _ _
theorem pay3_eq (v : S128x512.Idx → Elt F .bf16) : k0_pay3 (F := F) v = v := shapeCast_self _ _
theorem pay4_eq (v : S128x512.Idx → Elt F .bf16) : k0_pay4 (F := F) v = v := shapeCast_self _ _
theorem pay5_eq (v : S512x512.Idx → Elt F .bf16) : k0_pay5 (F := F) v = v := shapeCast_self _ _

set_option maxHeartbeats 1600000 in
/-- The kernel's body, from `before` to `finished`. -/
theorem body_run (Kt : PUnit → sProp 𝕄) :
    iprop(known m K ∗ levAts L lv ∗ before m c ∗ owing c (O₀ c) ∗ ((finished m c ∗ owing c 0) -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  rw [cc0_body_eq_skeleton]; unfold cc0_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold before finished
  rw [bigSep_four (fun k => ready m c k), bigSep_four (fun k => collected m c k)]
  iintro ⟨#Hkn, #Hlev, ⟨Hat, Hcr, Ht, ⟨H0, H1, H2, H3⟩, Hkeep, Hout⟩, HO, HK⟩
  iapply (wp_announce m K c _ (dev1_eq c) _ (by decide)) $$ [Ht Hout HO]
  · isplitr; · iexact Hkn
    isplitl [Ht]; · iexact Ht
    isplitl [Hout] <;> iassumption
  iintro HO
  iapply (wp_fetch m c 0) $$ H0; iintro H0
  iapply (wp_fetch m c 1) $$ H1; iintro H1
  iapply (wp_fetch m c 2) $$ H2; iintro H2
  iapply (wp_fetch m c 3) $$ H3; iintro H3
  iapply (wp_await m K c _ (by decide)) $$ [Hat Hcr HO]
  · isplitr; · iexact Hkn
    isplitr; · iexact Hlev
    isplitl [Hat]; · iexact Hat
    isplitl [Hcr] <;> iassumption
  rw [bigSep_four (fun k => iprop(∃ f, outPts (peer c) c k f))]
  iintro ⟨⟨Ho0, Ho1, Ho2, Ho3⟩, Hz, HO⟩
  iapply (wp_forward m K c 0 _ (dev2_eq c) k0_pay1 pay1_eq) $$ [H0 Ho0 HO]
  · isplitr; · iexact Hkn
    isplitr; · iexact Hlev
    isplitl [H0]; · iexact H0
    isplitl [Ho0]; · iexact Ho0
    iexact HO
  iintro ⟨H0, HO⟩
  iapply (wp_forward m K c 1 _ (dev3_eq c) k0_pay2 pay2_eq) $$ [H1 Ho1 HO]
  · isplitr; · iexact Hkn
    isplitr; · iexact Hlev
    isplitl [H1]; · iexact H1
    isplitl [Ho1]; · iexact Ho1
    iexact HO
  iintro ⟨H1, HO⟩
  iapply (wp_forward m K c 2 _ (dev4_eq c) k0_pay3 pay3_eq) $$ [H2 Ho2 HO]
  · isplitr; · iexact Hkn
    isplitr; · iexact Hlev
    isplitl [H2]; · iexact H2
    isplitl [Ho2]; · iexact Ho2
    iexact HO
  iintro ⟨H2, HO⟩
  iapply (wp_forward m K c 3 _ (dev5_eq c) k0_pay4 pay4_eq) $$ [H3 Ho3 HO]
  · isplitr; · iexact Hkn
    isplitr; · iexact Hlev
    isplitl [H3]; · iexact H3
    isplitl [Ho3]; · iexact Ho3
    iexact HO
  iintro ⟨H3, HO⟩
  rw [show owedFrom c ((3 : Fin 4).val + 1) = 0 from owedFrom_four c]
  iapply (wp_keep m c k0_pay5 pay5_eq) $$ [Hkeep HO]
  · isplitl [Hkeep] <;> iassumption
  iintro ⟨Hkeep, HO⟩
  iapply (wp_collect m K c 0) $$ [H0 HO]
  · isplitr; · iexact Hkn
    isplitl [H0] <;> iassumption
  iintro ⟨H0, HO⟩
  iapply (wp_collect m K c 1) $$ [H1 HO]
  · isplitr; · iexact Hkn
    isplitl [H1] <;> iassumption
  iintro ⟨H1, HO⟩
  iapply (wp_collect m K c 2) $$ [H2 HO]
  · isplitr; · iexact Hkn
    isplitl [H2] <;> iassumption
  iintro ⟨H2, HO⟩
  iapply (wp_collect m K c 3) $$ [H3 HO]
  · isplitr; · iexact Hkn
    isplitl [H3] <;> iassumption
  iintro ⟨H3, HO⟩
  rw [wp_ret]; imodintro
  iapply HK
  isplitr [HO]
  · isplitl [H0 H1 H2 H3]
    · isplitl [H0]; · iexact H0
      isplitl [H1]; · iexact H1
      isplitl [H2] <;> iassumption
    isplitl [Hkeep] <;> iassumption
  · iexact HO

end Body

end Cert.Exchange

end
-- ==== Proof.Split.lean ====
/-
# Splitting and rejoining what a launch hands over

A launch hands every device its buffers whole and its semaphores in one family. The body works on the pieces of
`Pieces` and on the semaphores sorted by their use. This module states each splitting as an equality, or, for the
buffers whose contents nobody reads again, as an entailment in either direction.
-/
module

public import proofs.«01_k».proof.Proof.Body
public import Idealize.ShloMosaic.Lib.Ring

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

omit [FloatOps F] in
/-- A family over an optional index: the part without one, and the rest. -/
theorem bigSep_optional {I : Type} [Fintype I] [DecidableEq I] (Φ : Option I → sProp 𝕄) :
    bigSep Finset.univ Φ = iprop(Φ none ∗ bigSep Finset.univ fun i => Φ (some i)) := by
  rw [bigSep_univ_at Φ none,
    show (Finset.univ : Finset (Option I)).erase none = Finset.univ.map Function.Embedding.some from by ext x; cases x <;> simp,
    BI.bigSep_map]
  rfl

omit [FloatOps F] in
/-- A family over the protocol's semaphores of a device: the barrier, the send ones and the receive ones. -/
theorem bigSep_kd (Φ : Kd → sProp 𝕄) : bigSep Finset.univ Φ
    = iprop(Φ none ∗ (bigSep Finset.univ fun k => Φ (some (false, k))) ∗ (bigSep Finset.univ fun k => Φ (some (true, k)))) := by
  rw [bigSep_optional, bigSep_univ_prod, bigSep_univ_eq_bigSepL [false, true] (by decide) (by decide)]
  rfl

/-! ## The two arrays -/

omit [FloatOps F] in
/-- A device's input is the half it keeps and the four chunks it sends. -/
theorem x_pieces (c : Dev nD) : (((c : Thread nD τ).loc main_arg0) ↦{fullShare} xBuf m c : sProp 𝕄)
    = iprop(xKeepPts m c ∗ bigSep Finset.univ fun k => xPts m c k) := by
  have hcover : (Finset.univ : Finset (Option (Fin 4))).biUnion (xPart c) = Finset.univ :=
    Finset.eq_univ_iff_forall.mpr fun i => by
      obtain ⟨p, hp⟩ := xParts_cover c i
      exact Finset.mem_biUnion.mpr ⟨p, Finset.mem_univ p, hp⟩
  rw [Ring.pointsTo_blocks (ℓ := (c : Thread nD τ).loc main_arg0) (xPart c) (xParts_disjoint c) hcover, bigSep_optional]
  have hkeep : xKeepPts m c = (((c : Thread nD τ).loc main_arg0) ↦[xPart c none]{fullShare} xBuf m c : sProp 𝕄) := by
    unfold xKeepPts; rw [xKeep_set]; rfl
  have hchunk : ∀ k, xPts m c k = (((c : Thread nD τ).loc main_arg0) ↦[xPart c (some k)]{fullShare} xBuf m c : sProp 𝕄) := fun k => by
    unfold xPts; rw [xChunk_set]; rfl
  rw [hkeep, bigSep_congr (s := Finset.univ) fun k _ => hchunk k]

omit [FloatOps F] in
/-- A device's result is the half it fills itself and the four chunks its peer fills. -/
theorem out_pieces (c : Dev nD) (f : S1024x512.Idx → Elt F .bf16) : (((c : Thread nD τ).loc main_v1) ↦{fullShare} f : sProp 𝕄)
    = iprop(keepOutPts c f ∗ bigSep Finset.univ fun k => outPts c (peer c) k f) := by
  have hcover : (Finset.univ : Finset (Option (Fin 4))).biUnion (outPart c) = Finset.univ :=
    Finset.eq_univ_iff_forall.mpr fun i => by
      obtain ⟨p, hp⟩ := outParts_cover c i
      exact Finset.mem_biUnion.mpr ⟨p, Finset.mem_univ p, hp⟩
  rw [Ring.pointsTo_blocks (ℓ := (c : Thread nD τ).loc main_v1) (outPart c) (outParts_disjoint c) hcover, bigSep_optional]
  have hkeep : keepOutPts c f = (((c : Thread nD τ).loc main_v1) ↦[outPart c none]{fullShare} f : sProp 𝕄) := by
    unfold keepOutPts; rw [outKeep_set]; rfl
  have hchunk : ∀ k, outPts c (peer c) k f = (((c : Thread nD τ).loc main_v1) ↦[outPart c (some k)]{fullShare} f : sProp 𝕄) := fun k => by
    unfold outPts; rw [outChunk_set]; rfl
  rw [hkeep, bigSep_congr (s := Finset.univ) fun k _ => hchunk k]

/-! ## The two buffers of the chunks -/

theorem rows_univ : (Finset.univ : Finset (Fin 4)).biUnion (fun k => (rowRect k).set) = Finset.univ :=
  Finset.eq_univ_iff_forall.mpr fun i => by
    obtain ⟨k, hk⟩ := rows_cover i
    exact Finset.mem_biUnion.mpr ⟨k, Finset.mem_univ k, hk⟩

omit [FloatOps F] in
/-- The staging buffer, chunk by chunk; -/
theorem stage_split (c : Dev nD) (f : S512x512.Idx → Elt F .bf16) : (((c : Thread nD τ).loc cc0_scratch0) ↦{fullShare} f : sProp 𝕄)
    ⊢ bigSep Finset.univ fun k => iprop(∃ f, stagePts c k f) := by
  rw [Ring.pointsTo_blocks (ℓ := (c : Thread nD τ).loc cc0_scratch0) (fun k => (rowRect k).set) rows_disjoint rows_univ]
  refine bigSep_mono fun k _ => ?_
  show _ ⊢ iprop(∃ f, stagePts c k f)
  unfold stagePts
  rw [stageChunk_set]
  iintro H; iexists f; iexact H

omit [FloatOps F] in
/-- and whole again. -/
theorem stage_join (c : Dev nD) : (bigSep Finset.univ fun k => iprop(∃ f, stagePts c k f) : sProp 𝕄)
    ⊢ iprop(∃ f, ((c : Thread nD τ).loc cc0_scratch0) ↦{fullShare} f) := by
  have hset : ∀ k, (iprop(∃ f, stagePts c k f) : sProp 𝕄) ⊢ iprop(∃ f, ((c : Thread nD τ).loc cc0_scratch0) ↦[(rowRect k).set]{fullShare} f) := fun k => by
    unfold stagePts
    rw [stageChunk_set]
  have hjoin (f : S512x512.Idx → Elt F .bf16) : (bigSep Finset.univ fun k => iprop(∃ f, stagePts c k f) : sProp 𝕄)
      ⊢ iprop(∃ f, ((c : Thread nD τ).loc cc0_scratch0) ↦{fullShare} f) :=
    (bigSep_mono fun k _ => hset k).trans
      (Ring.pointsTo_blocks_join_exists (ℓ := (c : Thread nD τ).loc cc0_scratch0) (fun k => (rowRect k).set) rows_disjoint rows_univ f)
  rw [bigSep_four] at hjoin ⊢
  iintro ⟨⟨%f, H0⟩, H1, H2, H3⟩
  iapply (hjoin f)
  isplitl [H0]; · iexists f; iexact H0
  isplitl [H1]; · iexact H1
  isplitl [H2]; · iexact H2
  iexact H3

omit [FloatOps F] in
/-- The send buffer, chunk by chunk; -/
theorem send_split (c : Dev nD) (f : S512x512.Idx → Elt F .bf16) : (((c : Thread nD τ).loc cc0_scratch2) ↦{fullShare} f : sProp 𝕄)
    ⊢ bigSep Finset.univ fun k => iprop(∃ f, sendPts c k f) := by
  rw [Ring.pointsTo_blocks (ℓ := (c : Thread nD τ).loc cc0_scratch2) (fun k => (rowRect k).set) rows_disjoint rows_univ]
  refine bigSep_mono fun k _ => ?_
  show _ ⊢ iprop(∃ f, sendPts c k f)
  unfold sendPts
  rw [sendChunk_set]
  iintro H; iexists f; iexact H

omit [FloatOps F] in
/-- and whole again. -/
theorem send_join (c : Dev nD) : (bigSep Finset.univ fun k => iprop(∃ f, sendPts c k f) : sProp 𝕄)
    ⊢ iprop(∃ f, ((c : Thread nD τ).loc cc0_scratch2) ↦{fullShare} f) := by
  have hset : ∀ k, (iprop(∃ f, sendPts c k f) : sProp 𝕄) ⊢ iprop(∃ f, ((c : Thread nD τ).loc cc0_scratch2) ↦[(rowRect k).set]{fullShare} f) := fun k => by
    unfold sendPts
    rw [sendChunk_set]
  have hjoin (f : S512x512.Idx → Elt F .bf16) : (bigSep Finset.univ fun k => iprop(∃ f, sendPts c k f) : sProp 𝕄)
      ⊢ iprop(∃ f, ((c : Thread nD τ).loc cc0_scratch2) ↦{fullShare} f) :=
    (bigSep_mono fun k _ => hset k).trans
      (Ring.pointsTo_blocks_join_exists (ℓ := (c : Thread nD τ).loc cc0_scratch2) (fun k => (rowRect k).set) rows_disjoint rows_univ f)
  rw [bigSep_four] at hjoin ⊢
  iintro ⟨⟨%f, H0⟩, H1, H2, H3⟩
  iapply (hjoin f)
  isplitl [H0]; · iexists f; iexact H0
  isplitl [H1]; · iexact H1
  isplitl [H2]; · iexact H2
  iexact H3

/-! ## The semaphores -/

/-- The semaphores of the kernel itself, by their use: the copy into the result, the local copy of the kept half, and
    for each chunk its local copy, its send and its receive. -/
abbrev osem : Option (Option (Option Bool × Fin 4)) → SemLoc sig
  | none => .dma keepS
  | some none => .dma (inS 4)
  | some (some (none, k)) => .dma (inS k.castSucc)
  | some (some (some false, k)) => .dma (sendS k)
  | some (some (some true, k)) => .dma (recvS k)

theorem ownSemFacts : Pipeline.OwnSemFacts cfg0.spec osem := by decide

/-- The semaphores of the local copies at zero. -/
def locals (c : Dev nD) : sProp 𝕄 :=
  iprop(semVal ((c : Thread nD τ), .dma keepS) 0 ∗ semVal ((c : Thread nD τ), .dma (inS 4)) 0
    ∗ bigSep Finset.univ fun k : Fin 4 => semVal ((c : Thread nD τ), .dma (inS k.castSucc)) 0)

omit [FloatOps F] in
theorem ownSems_sorted (c : Dev nD) : (Pipeline.ownSems0 (Ix := Unit) (Name := ℕ) (U := UU) (Lvl := ℕ) (Val := Elt F) (τ := τ) osem c : sProp 𝕄)
    = iprop(semVal ((c : Thread nD τ), .dma keepS) 0 ∗ semVal ((c : Thread nD τ), .dma (inS 4)) 0
        ∗ (bigSep Finset.univ fun k : Fin 4 => semVal ((c : Thread nD τ), .dma (inS k.castSucc)) 0)
        ∗ (bigSep Finset.univ fun k => semVal (sendCell c k) 0) ∗ bigSep Finset.univ fun k => semVal (recvCell c k) 0) := by
  unfold Pipeline.ownSems0
  rw [bigSep_optional, bigSep_optional, bigSep_univ_prod, bigSep_optional, bigSep_univ_eq_bigSepL [false, true] (by decide) (by decide)]
  rfl

omit [FloatOps F] in
theorem barrier_only (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores of a device at zero: the protocol's, and those of the local copies. -/
theorem sems_sorted (c : Dev nD) :
    iprop(Pipeline.ownSems0 (Ix := Unit) (Name := ℕ) (U := UU) (Lvl := ℕ) (Val := Elt F) (τ := τ) osem c ∗ unscopedSems0 c)
      ⊢ (iprop((bigSep Finset.univ fun x : Kd => semVal (kcell (c, x)) 0) ∗ locals c) : sProp 𝕄) := by
  rw [ownSems_sorted, barrier_only, bigSep_kd]
  unfold locals
  iintro ⟨⟨H1, H2, H3, H4, H5⟩, H6⟩
  isplitl [H4 H5 H6]
  · isplitl [H6]; · iexact H6
    isplitl [H4]; · iexact H4
    iexact H5
  isplitl [H1]; · iexact H1
  isplitl [H2]; · iexact H2
  iexact H3

/-! ## What the body starts from and ends with, as a launch names it -/

/-- The part of the protocol that stays with device `c`: its positions, the rights to raise its own send and its peer's
    receive and barrier semaphores, and the semaphores of its local copies. -/
def dealt (c : Dev nD) : sProp 𝕄 :=
  iprop(atPos ER (barCell c) 0 ∅ 0 ∗ (bigSep Finset.univ fun k => atPos ER (sendCell c k) 0 ∅ 0)
    ∗ (bigSep Finset.univ fun k => atPos ER (recvCell c k) 0 ∅ 0)
    ∗ dutyTok ER (barCell (peer c)) 0 () ∗ (bigSep Finset.univ fun k => dutyTok ER (sendCell c k) 0 ())
    ∗ (bigSep Finset.univ fun k => dutyTok ER (recvCell (peer c) k) 0 ()) ∗ locals c)

/-- The credits of a device: to wait for its barrier, and for each chunk of its peer. -/
def credits (c : Dev nD) : sProp 𝕄 :=
  iprop(cred (tallyAt (barCell c) () 1) ∗ bigSep Finset.univ fun k => cred (tallyAt (recvCell c k) () N))

/-- The arrays of a device, the result at contents `f`. -/
def arrays (c : Dev nD) (f : S1024x512.Idx → Elt F .bf16) : sProp 𝕄 :=
  iprop((((c : Thread nD τ).loc main_arg0) ↦{fullShare} xBuf m c) ∗ (((c : Thread nD τ).loc main_v1) ↦{fullShare} f))

/-- The four buffers of the kernel at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

omit [FloatOps F] in
/-- These make up what the body starts from. -/
theorem before_intro (c : Dev nD) (f : S1024x512.Idx → Elt F .bf16) :
    iprop(dealt c ∗ credits c ∗ arrays m c f ∗ scratch c) ⊢ before m c := by
  unfold dealt credits arrays scratch locals before
  rw [x_pieces, out_pieces]
  iintro ⟨⟨Ha, HaS, HaR, HtB, HtS, HtR, Hk, H4, Hin⟩, ⟨HcB, HcR⟩, ⟨⟨HxK, Hx⟩, HoK, Ho⟩, ⟨%f0, Hs0⟩, Hs1, ⟨%f2, Hs2⟩, Hs3⟩
  ihave Hst := (stage_split (F := F) c f0) $$ Hs0
  ihave Hsd := (send_split (F := F) c f2) $$ Hs2
  isplitl [Ha]; · iexact Ha
  isplitl [HcB]; · iexact HcB
  isplitl [HtB]; · iexact HtB
  isplitl [Hx Hst Hsd Hin HtS HtR HaS HaR HcR]
  · unfold ready
    simp only [bigSep_sep']
    isplitl [Hx]; · iexact Hx
    isplitl [Hst]; · iexact Hst
    isplitl [Hsd]; · iexact Hsd
    isplitl [Hin]; · iexact Hin
    isplitl [HtS]; · iexact HtS
    isplitl [HtR]; · iexact HtR
    isplitl [HaS]; · iexact HaS
    isplitl [HaR]; · iexact HaR
    iexact HcR
  isplitl [HxK Hs1 Hs3 HoK H4 Hk]
  · unfold keeping
    isplitl [HxK]; · iexact HxK
    isplitl [Hs1]; · iexact Hs1
    isplitl [Hs3]; · iexact Hs3
    isplitl [HoK]; · iexists f; iexact HoK
    isplitl [H4]; · iexact H4
    iexact Hk
  have h : (bigSep Finset.univ fun k => outPts c (peer c) k f : sProp 𝕄) ⊢ bigSep Finset.univ fun k => iprop(∃ f, outPts c (peer c) k f) :=
    bigSep_mono fun k _ => show outPts c (peer c) k f ⊢ iprop(∃ f, outPts c (peer c) k f) from by iintro H; iexists f; iexact H
  iapply h $$ Ho

omit [FloatOps F] in
/-- What the body ends with: its arrays, the result holding what it must, its buffers, and every semaphore at zero. -/
theorem finished_elim (c : Dev nD) : finished m c
    ⊢ iprop(arrays m c (outF m c) ∗ unscopedSems0 c
        ∗ Pipeline.ownSems0 (Ix := Unit) (Name := ℕ) (U := UU) (Lvl := ℕ) (Val := Elt F) (τ := τ) osem c ∗ scratch c) := by
  rw [ownSems_sorted, barrier_only]
  unfold finished collected keeping arrays scratch
  rw [x_pieces, out_pieces]
  simp only [bigSep_sep']
  iintro ⟨⟨Hx, Hst, Hsd, Ho, Hin, Hs, Hr⟩, ⟨HxK, Hs1, Hs3, HoK, H4, Hk⟩, HB⟩
  isplitl [Hx Ho HxK HoK]
  · isplitl [Hx HxK]
    · isplitl [HxK]; · iexact HxK
      iexact Hx
    isplitl [HoK]; · iexact HoK
    iexact Ho
  isplitl [HB]; · iexact HB
  isplitl [Hk H4 Hin Hs Hr]
  · isplitl [Hk]; · iexact Hk
    isplitl [H4]; · iexact H4
    isplitl [Hin]; · iexact Hin
    isplitl [Hs]; · iexact Hs
    iexact Hr
  isplitl [Hst]; · iapply (stage_join (F := F) c) $$ Hst
  isplitl [Hs1]; · iexact Hs1
  isplitl [Hsd]; · iapply (send_join (F := F) c) $$ Hsd
  iexact Hs3

end Cert.Exchange

end
-- ==== Proof.Deal.lean ====
/-
# Setting the protocol up

At launch the protocol's bookkeeping is minted for every semaphore of it at once. Each device is first given the
bookkeeping of its own nine semaphores (`minted`); the invariants are then allocated (`allocate`) and the rights to
raise a semaphore are exchanged between a device and its peer (`exchange`). What a device may wait for at launch is
read off what its peer owes (`credits_intro`).
-/
module

public import proofs.«01_k».proof.Proof.Split
public import proofs.«01_k».proof.Proof.Gen.KernelIdeal.Launch

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and their tokens -/

theorem ksem_injective : Function.Injective ksem := by decide

/-- Different semaphores of the protocol are different cells. -/
theorem kcell_injective : Function.Injective kcell := fun x y h =>
  Prod.ext (congrArg (fun g : GSem nD τ sig => g.1.1) h) (ksem_injective (congrArg Prod.snd h))

def cells : Finset (GSem nD τ sig) := Finset.univ.map ⟨kcell, kcell_injective⟩
/-- One right to raise each cell. -/
def tokens : Finset (GSem nD τ sig × ℕ × Unit) := cells.map ⟨fun g => (g, 0, ()), fun _ _ h => congrArg Prod.fst h⟩

/-- The resources minted at launch: the pipeline library's, and the protocol's. -/
def u₀ : UU := (initOf (Pipeline.cells cfgs cellOf_inj) (Pipeline.launchToks cfgs cellOf_inj), (initOf cells tokens, 1))

omit [FloatOps F] in
theorem own_split (a : UR sig nD τ) (b : UX) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
/-- A family over all cells: device by device, semaphore by semaphore. -/
theorem bigSep_cells (Φ : GSem nD τ sig → sProp 𝕄) :
    bigSep cells Φ = bigSep Finset.univ fun c : Dev nD => bigSep Finset.univ fun x : Kd => Φ (kcell (c, x)) := by
  unfold cells; rw [BI.bigSep_map, bigSep_univ_prod]; rfl

/-- What device `c` is first given of each of its semaphores. -/
def given (c : Dev nD) : sProp 𝕄 :=
  iprop((bigSep Finset.univ fun x : Kd => roundState ER (rd m) (kcell (c, x)) 0)
    ∗ (bigSep Finset.univ fun x : Kd => atPos ER (kcell (c, x)) 0 ∅ 0)
    ∗ (bigSep Finset.univ fun x : Kd => reached ER (kcell (c, x)) 0)
    ∗ (bigSep Finset.univ fun x : Kd => dutyTok ER (kcell (c, x)) 0 ()))

omit [FloatOps F] in
theorem minted : BI.own (ER (initOf cells tokens)) ⊢ (|==> bigSep Finset.univ (given m) : sProp 𝕄) := by
  have hT : bigSep tokens (fun x => (dutyTok ER x.1 x.2.1 x.2.2 : sProp 𝕄)) = bigSep cells fun g => dutyTok ER g 0 () := by
    unfold tokens; rw [BI.bigSep_map]; rfl
  iintro HX
  imod (Rounds.fund ER (rd m) cells tokens) $$ HX with ⟨Hst, Hr, Hat, Htok⟩
  imodintro
  ihave Htok' := (Entails.of_eq hT) $$ Htok
  unfold given
  simp only [bigSep_sep', bigSep_cells]
  isplitl [Hst]; · iexact Hst
  isplitl [Hat]; · iexact Hat
  isplitl [Hr]; · iexact Hr
  iexact Htok'

/-! ## The invariants -/

omit [FloatOps F] in
/-- A device's semaphores at zero become the invariants of its cells, at names of their own. -/
theorem allocate_one (c : Dev nD) :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun x : Kd => iprop(∃ κ : ℕ, cellInv ER (rd m) κ (kcell (c, x))))
          ∗ (bigSep Finset.univ fun x : Kd => atPos ER (kcell (c, x)) 0 ∅ 0)
          ∗ (bigSep Finset.univ fun x : Kd => reached ER (kcell (c, x)) 0)
          ∗ (bigSep Finset.univ fun x : Kd => dutyTok ER (kcell (c, x)) 0 ()) ∗ locals c) := by
  have hinv : iprop((bigSep Finset.univ fun x : Kd => semVal (kcell (c, x)) 0) ∗ bigSep Finset.univ fun x : Kd => roundState ER (rd m) (kcell (c, x)) 0)
      ⊢ (|={Set.univ}=> bigSep Finset.univ fun x : Kd => iprop(∃ κ : ℕ, cellInv ER (rd m) κ (kcell (c, x))) : sProp 𝕄) := by
    rw [← bigSep_sep']
    exact (bigSep_mono fun x _ => (Rounds.body_intro ER (rd m) (kcell (c, x))).trans inv_alloc).trans (bigSep_fupd _ _)
  unfold given
  iintro ⟨Hos, Hus, Hst, Hrest⟩
  ihave Hv := (sems_sorted (F := F) c) $$ [Hos Hus]
  · isplitl [Hos] <;> iassumption
  icases Hv with ⟨Hv, Hl⟩
  imod (hinv) $$ [Hv Hst] with Hinv
  · isplitl [Hv] <;> iassumption
  icases Hrest with ⟨Hat, Hr, Htok⟩
  imodintro
  isplitl [Hinv]; · iexact Hinv
  isplitl [Hat]; · iexact Hat
  isplitl [Hr]; · iexact Hr
  isplitl [Htok]; · iexact Htok
  iexact Hl

/-- What the set-up leaves device `c` with: the knowledge of the protocol, and its part of it. -/
def party (c : Dev nD) : sProp 𝕄 := iprop(∃ K, known m K ∗ dealt c)

omit [FloatOps F] in
/-- A device's rights to raise its own semaphores, over all devices, are its rights to raise its own send and its peer's
    barrier and receive semaphores. -/
theorem exchange : (bigSep Finset.univ fun c : Dev nD => bigSep Finset.univ fun x : Kd => (dutyTok ER (kcell (c, x)) 0 () : sProp 𝕄))
    = iprop((bigSep Finset.univ fun c : Dev nD => dutyTok ER (barCell (peer c)) 0 ())
        ∗ (bigSep Finset.univ fun c : Dev nD => bigSep Finset.univ fun k : Fin 4 => dutyTok ER (sendCell c k) 0 ())
        ∗ (bigSep Finset.univ fun c : Dev nD => bigSep Finset.univ fun k : Fin 4 => dutyTok ER (recvCell (peer c) k) 0 ())) := by
  rw [bigSep_congr (s := Finset.univ) fun (c : Dev nD) _ => bigSep_kd fun x => (dutyTok ER (kcell (c, x)) 0 () : sProp 𝕄), bigSep_sep', bigSep_sep',
    bigSep_univ_equiv swap (fun c : Dev nD => (dutyTok ER (kcell (c, none)) 0 () : sProp 𝕄)),
    bigSep_univ_equiv swap (fun c : Dev nD => (bigSep Finset.univ fun k : Fin 4 => dutyTok ER (kcell (c, some (true, k))) 0 () : sProp 𝕄))]
  rfl

omit [FloatOps F] in
/-- The invariants of all devices are known to each of them. -/
theorem regroup :
    (bigSep Finset.univ fun c : Dev nD => iprop((bigSep Finset.univ fun x : Kd => iprop(∃ κ : ℕ, cellInv ER (rd m) κ (kcell (c, x))))
          ∗ (bigSep Finset.univ fun x : Kd => atPos ER (kcell (c, x)) 0 ∅ 0)
          ∗ (bigSep Finset.univ fun x : Kd => reached ER (kcell (c, x)) 0)
          ∗ (bigSep Finset.univ fun x : Kd => dutyTok ER (kcell (c, x)) 0 ()) ∗ locals c) : sProp 𝕄)
      ⊢ bigSep Finset.univ (party m) := by
  have hshare (K : Dev nD × Kd → ℕ) : iprop(known m K ∗ bigSep Finset.univ fun c : Dev nD => dealt c) ⊢ (bigSep Finset.univ (party m) : sProp 𝕄) := by
    refine (sep_mono_left (BI.bigSep_of_persistent (Finset.univ : Finset (Dev nD)) (known m K))).trans ?_
    rw [← bigSep_sep']
    refine bigSep_mono fun c _ => ?_
    show iprop(known m K ∗ dealt c) ⊢ party m c
    unfold party
    iintro H; iexists K; iexact H
  have hnames : (bigSep Finset.univ fun y : Dev nD × Kd => iprop(∃ κ : ℕ, cellInv ER (rd m) κ (kcell y)) : sProp 𝕄)
      ⊢ iprop(∃ K : Dev nD × Kd → ℕ, bigSep Finset.univ fun y => cellInv ER (rd m) (K y) (kcell y)) :=
    BI.bigSep_exists_pi Finset.univ fun (y : Dev nD × Kd) (κ : ℕ) => (cellInv ER (rd m) κ (kcell y) : sProp 𝕄)
  rw [bigSep_sep', bigSep_sep', bigSep_sep', bigSep_sep', exchange,
    ← bigSep_univ_prod (fun y : Dev nD × Kd => iprop(∃ κ : ℕ, cellInv ER (rd m) κ (kcell y))),
    ← bigSep_univ_prod (fun y : Dev nD × Kd => (reached ER (kcell y) 0 : sProp 𝕄)),
    bigSep_congr (s := Finset.univ) fun (c : Dev nD) _ => bigSep_kd fun x => (atPos ER (kcell (c, x)) 0 ∅ 0 : sProp 𝕄), bigSep_sep', bigSep_sep']
  iintro ⟨HI, ⟨HaB, HaS, HaR⟩, Hr, ⟨HtB, HtS, HtR⟩, Hl⟩
  ihave HK := hnames $$ HI
  icases HK with ⟨%K, HI⟩
  iapply (hshare K)
  isplitl [HI Hr]
  · unfold known
    isplitl [HI] <;> iassumption
  unfold dealt
  simp only [bigSep_sep']
  isplitl [HaB]; · iexact HaB
  isplitl [HaS]; · iexact HaS
  isplitl [HaR]; · iexact HaR
  isplitl [HtB]; · iexact HtB
  isplitl [HtS]; · iexact HtS
  isplitl [HtR]; · iexact HtR
  iexact Hl

omit [FloatOps F] in
/-- The set-up of all devices at once. -/
theorem allocate : (bigSep Finset.univ fun c =>
      iprop(Pipeline.ownSems0 (Ix := Unit) (Name := ℕ) (U := UU) (Lvl := ℕ) (Val := Elt F) (τ := τ) osem c ∗ unscopedSems0 c ∗ given m c) : sProp 𝕄)
    ⊢ |={Set.univ}=> bigSep Finset.univ (party m) :=
  ((bigSep_mono fun c _ => allocate_one m c).trans (bigSep_fupd _ _)).trans (BI.fupd_mono (regroup m))

/-! ## The launch credit -/

theorem peer_eq_comm (c d : Dev nD) : c = peer d ↔ d = peer c := ⟨fun h => by rw [h, peer_peer], fun h => by rw [h, peer_peer]⟩

theorem recvCell_ne_bar (c d : Dev nD) (k : Fin 4) : recvCell c k ≠ barCell d := fun h => nomatch congrArg Prod.snd h

/-- What device `d` owes the receive semaphore `k` of device `c`: the chunk, if it is its peer's. -/
theorem owed_recv (d c : Dev nD) (k : Fin 4) : O₀ d (recvCell c k) () = if d = peer c then N else 0 := by
  unfold O₀ owedFrom
  rw [Pi.add_apply, Finsupp.add_apply, Finset.sum_apply, Finsupp.finset_sum_apply, tallyAt_apply (barCell (peer d)),
    if_neg (fun h => recvCell_ne_bar _ _ _ h.1), Nat.add_zero]
  have hterm (l : Fin 4) : (if 0 ≤ l.val then tallyAt (recvCell (peer d) l) () N else 0 : CellTallies nD τ sig Unit) (recvCell c k) ()
      = if k = l then (if d = peer c then N else 0) else 0 := by
    rw [if_pos (Nat.zero_le _), tallyAt_apply, ← ite_and]
    refine if_congr ⟨fun h => ?_, fun h => ?_⟩ rfl rfl
    · have := kcell_injective (show kcell (c, some (true, k)) = kcell (peer d, some (true, l)) from h.1)
      simp only [Prod.mk.injEq, Option.some.injEq, true_and] at this
      exact ⟨this.2, (peer_eq_comm c d).mp this.1⟩
    · rw [h.1, (peer_eq_comm c d).mpr h.2]
      exact ⟨rfl, rfl⟩
  rw [Finset.sum_congr rfl fun l _ => hterm l, Finset.sum_ite_eq Finset.univ k fun _ => _, if_pos (Finset.mem_univ _)]

/-- What device `d` owes the barrier of device `c`: one, if it is its peer's. -/
theorem owed_bar (d c : Dev nD) : O₀ d (barCell c) () = if d = peer c then 1 else 0 := by
  unfold O₀
  have h0 : owedFrom d 0 (barCell c) () = 0 := by
    by_contra h
    obtain ⟨k, hk⟩ := owedFrom_pos (Nat.pos_of_ne_zero h)
    exact recvCell_ne_bar _ _ _ hk.symm
  rw [Pi.add_apply, Finsupp.add_apply, h0, Nat.zero_add, tallyAt_apply]
  refine if_congr ⟨fun h => ?_, fun h => ?_⟩ rfl rfl
  · have := kcell_injective (show kcell (c, none) = kcell (peer d, none) from h.1)
    exact (peer_eq_comm c d).mp (congrArg Prod.fst this)
  · rw [(peer_eq_comm c d).mpr h]
    exact ⟨rfl, rfl⟩

/-- A cell that exactly the peer of `c` owes `n` has the launch credit `n`. -/
theorem launch_credit (c : Dev nD) (g : GSem nD τ sig) (n : ℕ) (h : ∀ d, O₀ d g () = if d = peer c then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

/-- The semaphores a device waits on that its peer raises: the barrier and the receive ones. -/
def awaited : Option (Fin 4) ↪ SemLoc sig := ⟨fun | none => .reg barS | some k => .dma (recvS k), by decide⟩

omit [FloatOps F] in
/-- A device's credit at launch. -/
theorem credits_intro (c : Dev nD) : (Pipeline.launchCred O₀ c : sProp 𝕄) ⊢ credits c := by
  unfold Pipeline.launchCred credits
  refine (bigSep_subset (Finset.subset_univ (Finset.univ.map awaited))).trans ?_
  rw [BI.bigSep_map, bigSep_optional]
  refine BIClass.sep_mono (Entails.of_eq (congrArg cred (launch_credit c (barCell c) 1 fun d => owed_bar d c))) (bigSep_mono fun k _ => ?_)
  exact Entails.of_eq (congrArg cred (launch_credit c (recvCell c k) N fun d => owed_recv d c k))

end Cert.Exchange

end
-- ==== Proof.Run.lean ====
/-
# The run

From any memory with every semaphore at zero, for any choice of what the floats are, every weakly fair execution of the
eight devices ends, and in every final state each device's result is `outF` of its memory, its input is as it was, and
every semaphore is at zero again (`run_main`).
-/
module

public import proofs.«01_k».proof.Proof.Deal
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Entry and exit of the body -/

/-- Device `c`'s result at launch. -/
abbrev oBuf (c : Dev nD) : S1024x512.Idx → Elt F .bf16 := m ((c : Thread nD τ).loc main_v1)

/-- What device `c` enters with, its buffers aside. -/
def entry (c : Dev nD) : sProp 𝕄 := iprop(party m c ∗ levAts L lv ∗ credits c ∗ arrays m c (oBuf m c))
/-- What it leaves with, its own semaphores and buffers aside. -/
def leaves (c : Dev nD) : sProp 𝕄 := iprop(arrays m c (outF m c) ∗ unscopedSems0 c)

def atEntry (c : Dev nD) : sProp 𝕄 := iprop(entry m c ∗ scratch c)
def atExit (c : Dev nD) : sProp 𝕄 := finished m c

/-- The proof data of the launch: the kernel streams no array, so there is only what it starts and ends with, and owes. -/
def dats (_ : Fin 1) (c : Dev nD) : Dat τ (Elt F) Unit ℕ UU ℕ cfg0 c where
  A w := w.elim0
  after w _ := w.elim0
  Φ t := match t with
    | ⟨0, _⟩ => atEntry m c
    | ⟨_ + 1, _⟩ => atExit m c
  q _ := fullShare
  owed t := match t with
    | ⟨0, _⟩ => O₀ c
    | ⟨_ + 1, _⟩ => 0

/-- The body keeps to the proof data. -/
theorem body_obligation (c : Dev nD) : BodyObligation (dats m 0 c) (defs₀ (F := F)) 𝒱₀ () Set.univ := fun t => by
  rw [fin_N0 t]
  have hnone (Φ : Fin cfg0.W → sProp 𝕄) : bigSep Finset.univ Φ = iprop(emp) := bigSep_empty
  rw [hnone, hnone]
  show iprop(atEntry m c ∗ (dats m 0 c).owesAt () t0_0.castSucc ∗ emp)
    ⊢ wp frame (wpE (defs₀ (F := F)) 𝒱₀ c none) Set.univ (bodyAt0 t0_0) (fun _ => iprop(atExit m c ∗ (dats m 0 c).owesAt () t0_0.succ ∗ emp))
  unfold atEntry atExit entry party Dat.owesAt Pipeline.owesWithin
  iintro ⟨⟨⟨⟨%K, #HK, Hd⟩, #Hlev, Hc, Ha⟩, Hs⟩, ⟨%W, -, HO⟩, -⟩
  ihave HB := (before_intro m c (oBuf m c)) $$ [Hd Hc Ha Hs]
  · isplitl [Hd]; · iexact Hd
    isplitl [Hc]; · iexact Hc
    isplitl [Ha] <;> iassumption
  iapply (body_run m K c)
  isplitr; · iexact HK
  isplitr; · iexact Hlev
  isplitl [HB]; · iexact HB
  isplitl [HO]; · unfold owing; iexists W; iexact HO
  unfold owing
  iintro ⟨Hf, ⟨%W', HO⟩⟩
  isplitl [Hf]; · iexact Hf
  isplitl [HO]
  · iexists W'
    isplitr; · ipureintro; exact fun _ _ => Or.inl trivial
    iexact HO
  iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ party m c)
      ⊢ |={Set.univ}=> iprop(entry m c ∗ emp) := by
  have harr : (Pipeline.unscopedRestP Pipeline.Prefetch.none cfg0.spec c (fun b => m ((c : Thread nD τ).loc b)) : sProp 𝕄) ⊢ arrays m c (oBuf m c) := by
    rw [Pipeline.unscopedRestP_none, unscopedRest0_eq]; exact Entails.of_eq rfl
  iintro ⟨Hu, Hlev, Hcr, -, Hp⟩
  ihave Hc := (credits_intro (F := F) c) $$ Hcr
  ihave Ha := harr $$ Hu
  imodintro
  unfold entry
  isplitl
  · isplitl [Hp]; · iexact Hp
    isplitl [Hlev]; · iexact Hlev
    isplitl [Hc]; · iexact Hc
    iexact Ha
  · iempintro

theorem enter (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atEntry m c from rfl, scopedRest0_eq]
  unfold atEntry scratch
  iintro ⟨Hs, -, Hr⟩
  isplitl [Hs]; · iexact Hs
  iexact Hr

theorem leave (c : Dev nD) :
    (dats m 0 c).Φ (Fin.last cfg0.N) ⊢ iprop(leaves m c ∗ Pipeline.ownSems0 osem c ∗ Pipeline.scopedRest cfg0.spec c) := by
  rw [show (dats m 0 c).Φ (Fin.last cfg0.N) = finished m c from rfl, scopedRest0_eq]
  iintro H
  ihave H' := (finished_elim m c) $$ H
  unfold leaves scratch
  icases H' with ⟨Ha, Hu, Ho, Hr⟩
  isplitl [Ha Hu]
  · isplitl [Ha] <;> iassumption
  isplitl [Ho]; · iexact Ho
  iexact Hr

/-! ## Reading the final state -/

/-- Device `c`'s part of a final state. -/
def Ends (c : Dev nD) (s : MemSt nD τ sig (Elt F)) : Prop :=
  s.mem ((c : Thread nD τ).loc main_v1) = outF m c ∧ s.mem ((c : Thread nD τ).loc main_arg0) = m ((c : Thread nD τ).loc main_arg0)

omit [FloatOps F] in
theorem read_end (c : Dev nD) (s' : Phys nD τ sig (Elt F)) :
    iprop(leaves m c ∗ emp ∗ SI s') ⊢ |={Set.univ}=> (iprop(⌜Ends m c s'.mem ∧ ∀ sm : SemLoc sig, sm.isScoped .tc = false → s'.mem.sem ((c.tc : Thread nD τ), sm) = 0⌝ ∗ SI s') : sProp 𝕄) := by
  unfold leaves arrays
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ ho, Buf.eq_of_forall_mem_univ hx⟩, hs⟩
  iexact HSI

/-! ## The run -/

theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := given m) (G' := party m) (u₀ := u₀)
    (hu₀ := by
      unfold u₀
      iintro Hu
      ihave H := (own_split _ _) $$ Hu
      icases H with ⟨HP, HX⟩
      imod (minted m) $$ HX with HG
      imodintro
      isplitl [HP] <;> iassumption)
    (hglob := allocate m)
    (hA := fun _ w => w.elim0) (hpf := fun _ k => k.elim0)
    (X := entry m) (Y := leaves m) (Z := fun _ => iprop(emp))
    (hX := start_intro m ρ) (hin := enter m) (hout := leave m)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.Exchange

end
-- ==== Proof.Value.lean ====
/-
# The result is the columns of the whole array

If each device's input is its block of rows of one array `X` — rows `0 … 511` at coordinate 0 of the last mesh axis,
rows `512 … 1023` at coordinate 1 — then each device's result is its block of columns of the same array
(`outF_block`). The reference returns its argument, so it ends with `X` (`reference_run`).
-/
module

public import proofs.«01_k».proof.Proof.Pieces
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.Exchange

open Idealize.ShloMosaic Idealize.ShloMosaic.TcCoe
open Idealize.SL.Sem

section Block

open Cert.KernelIdeal Cert.KernelIdeal.Gen

variable {F : FTy → Type} [FloatOps F]

/-- Device `c`'s block of rows, and its block of columns, among two. -/
abbrev rowBlock (c : Dev nD) := Layout.meshBlock (r := 2) [2, 2, 2] ![[2], []] c
abbrev colBlock (c : Dev nD) := Layout.meshBlock (r := 2) [2, 2, 2] ![[], [2]] c

/-- The coordinate of a device on the last mesh axis. -/
theorem last_coord (c : Dev nD) : Layout.meshLin [2, 2, 2] c.val [2] = c.val % 2 := by
  show c.val / 1 % 2 * 1 + 0 = c.val % 2
  omega

/-- Two indices of the whole array are equal when their coordinates are. -/
theorem wholeIdx_ext (i j : (⟨2, ![1024, 1024]⟩ : Shape).Idx) (h0 : (i 0).val = (j 0).val) (h1 : (i 1).val = (j 1).val) : i = j := by
  funext a
  fin_cases a
  · exact Fin.ext h0
  · exact Fin.ext h1

variable (m : (ℓ : Loc nD τ sig) → Buf (Elt F) ℓ)

omit [FloatOps F] in
/-- From blocks of rows to blocks of columns. -/
theorem outF_block (X : (⟨2, ![1024, 1024]⟩ : Shape).Idx → Elt F .bf16)
    (hX : ∀ c : Dev nD, xBuf m c = Layout.blockN ⟨2, ![512, 1024]⟩ ⟨2, ![1024, 1024]⟩ (rowBlock c) X) (c : Dev nD) :
    outF m c = Layout.blockN ⟨2, ![1024, 512]⟩ ⟨2, ![1024, 1024]⟩ (colBlock c) X := by
  funext i
  have i0 : (i 0).val < 1024 := (i 0).isLt
  have hc : c.val % 2 < 2 := Nat.mod_lt _ (by decide)
  unfold outF
  rw [hX, Layout.blockN_apply, Layout.blockN_apply]
  refine congrArg X (wholeIdx_ext _ _ ?_ ?_)
  · rw [Layout.TilesN.idx_val, Layout.TilesN.idx_val]
    show Layout.meshLin [2, 2, 2] (if (i 0).val / 512 = c.val % 2 then c else peer c).val [2] * 512 + (srcIdx c i 0).val = 0 * 1024 + (i 0).val
    rw [last_coord, srcIdx_0]
    split
    · omega
    · rw [peer_mod]; omega
  · rw [Layout.TilesN.idx_val, Layout.TilesN.idx_val]
    show 0 * 1024 + (srcIdx c i 1).val = Layout.meshLin [2, 2, 2] c.val [2] * 512 + (i 1).val
    rw [last_coord, srcIdx_1]
    omega

end Block

section Reference

open Cert.ReferenceIdeal Cert.ReferenceIdeal.Gen

/-- The reference ends, its argument as it was and every semaphore at zero. -/
theorem reference_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Reference

end Cert.Exchange

end
-- ==== Proof.lean ====
/-
# The certificate's claims

The kernel's run is proved once, for any choice of what the floats are (`Proof/Run.lean`), and its value is compared with
the reference's in `Proof/Value.lean`. Here the five claims are read off the two.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem

/-- The kernel ends without a fault, its input as it was and every semaphore at zero: the run at the machine's own floats. -/
theorem frame_kernel : Cert.quiescent_Kernel := fun m ρ _ =>
  (θ_run Cert.KernelIdeal.defs _ _).mono (fun _ h => ⟨fun c => (h.1 c).2, h.2⟩) (Cert.Exchange.run_main (F := Bits) m ρ)

/-- The same of the kernel over exact numbers. -/
theorem frame_ideal : Cert.quiescent_KernelIdeal := fun m ρ _ =>
  (θ_run Cert.KernelIdeal.defs _ _).mono (fun _ h => ⟨fun c => (h.1 c).2, h.2⟩) (Cert.Exchange.run_main (F := Ideal) m ρ)

/-- The same of the reference. -/
theorem frame_reference : Cert.quiescent_ReferenceIdeal := fun m ρ _ => Cert.Exchange.reference_run (F := Ideal) m ρ

/-- From devices holding the blocks of rows of the reference's argument, the kernel ends with each device holding its
    block of columns of the reference's result. -/
theorem equal : Cert.algebraic_KernelIdeal_ReferenceIdeal := fun m ρ m' ρ' _ hX =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.Exchange.outF_block m _ hX c), (h.1 c).2⟩) (Cert.Exchange.run_main (F := Ideal) m ρ),
    (θ_run Cert.ReferenceIdeal.defs _ _).mono (fun _ h => ⟨h.1 0, h.1 0⟩) (Cert.Exchange.reference_run (F := Ideal) m' ρ')⟩

theorem claim : Cert.Claim := ⟨Cert.Kernel.Gen.facts, Cert.KernelIdeal.Gen.facts, Cert.ReferenceIdeal.Gen.facts,
  frame_kernel, frame_ideal, frame_reference, trivial, equal⟩

end Cert.Proof

end
